-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gain_finite [hPre_gain_finite : Cert.Pre_gain_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gain_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gain_finite [hPre_gain_finite : Cert.Pre_gain_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gain_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_gain_finite [hKernelIdeal : Cert.KernelIdeal.Facts] [hPre_gain_finite : Cert.Pre_gain_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gain_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_gain_finite [hReferenceIdeal : Cert.ReferenceIdeal.Facts] [hPre_gain_finite : Cert.Pre_gain_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gain_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_d" .f32 0x39124925#32 ((1 / 7168 : ℝ) : EReal)

def algebraic_KernelIdeal_ReferenceIdeal_pre_gain_finite [hKernelIdeal : Cert.KernelIdeal.Facts] [hReferenceIdeal : Cert.ReferenceIdeal.Facts] [hPre_gain_finite : Cert.Pre_gain_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gain_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_3)) (v4 : (c : Dev Cert.KernelIdeal.nD) → Buf (Elt Ideal) ((c.tc : Thread Cert.KernelIdeal.nD Cert.KernelIdeal.τ).loc Cert.KernelIdeal.main_v16_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_v16_3) = v3 c
          ∧ r.2.mem ((c.tc : Thread Cert.KernelIdeal.nD Cert.KernelIdeal.τ).loc Cert.KernelIdeal.main_v16_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15_0) = v0 c
          ∧ r.2.mem ((c.tc : Thread Cert.ReferenceIdeal.nD Cert.ReferenceIdeal.τ).loc Cert.ReferenceIdeal.main_v15_1) = v1 c
          ∧ r.2.mem ((c.tc : Thread Cert.ReferenceIdeal.nD Cert.ReferenceIdeal.τ).loc Cert.ReferenceIdeal.main_v15_2) = v2 c
          ∧ r.2.mem ((c.tc : Thread Cert.ReferenceIdeal.nD Cert.ReferenceIdeal.τ).loc Cert.ReferenceIdeal.main_v15_3) = v3 c
          ∧ r.2.mem ((c.tc : Thread Cert.ReferenceIdeal.nD Cert.ReferenceIdeal.τ).loc Cert.ReferenceIdeal.main_v15_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_gain_finite : Cert.Pre_gain_finite.Facts),
    quiescent_Kernel (hKernel := hKernel)
    ∧ quiescent_KernelIdeal (hKernelIdeal := hKernelIdeal)
    ∧ quiescent_KernelIdeal_pre_gain_finite (hKernelIdeal := hKernelIdeal) (hPre_gain_finite := hPre_gain_finite)
    ∧ quiescent_ReferenceIdeal (hReferenceIdeal := hReferenceIdeal)
    ∧ quiescent_ReferenceIdeal_pre_gain_finite (hReferenceIdeal := hReferenceIdeal) (hPre_gain_finite := hPre_gain_finite)
    ∧ preserves_Kernel_KernelIdeal
    ∧ algebraic_KernelIdeal_ReferenceIdeal_pre_gain_finite (hKernelIdeal := hKernelIdeal) (hReferenceIdeal := hReferenceIdeal) (hPre_gain_finite := hPre_gain_finite)
-- ==== Pre_gain_finite.lean ====
abbrev S3x1024x7168 : Shape := ⟨3, ![3, 1024, 7168]⟩
abbrev S3x1024 : Shape := ⟨2, ![3, 1024]⟩
abbrev S7168 : Shape := ⟨1, ![7168]⟩
abbrev S6144x7168 : Shape := ⟨2, ![6144, 7168]⟩
abbrev S6144 : Shape := ⟨1, ![6144]⟩
abbrev S_ : Shape := ⟨0, ![]⟩

class Facts : Prop where
  bcast_S_S7168 : S_.BroadcastsInDim S7168 (![] : Fin 0 → Fin S7168.rank)

variable [Facts]

def fn {F : FTy → Type} [FloatOps F] (main_arg0 : FVec F S3x1024x7168 .bf16) (main_arg1 : IVec S3x1024 32) (main_arg2 : FVec F S7168 .f32) (main_arg3 : FVec F S6144x7168 .fp8e4m3) (main_arg4 : FVec F S6144 .f32) : IVec S7168 1 :=
  let main_v0 : FVec F S7168 .f32 := Host.absf main_arg2
  let main_cst : FVec F S_ .f32 := constant S_ .f32 0x7F7FFFFF#32
  let main_v1 : FVec F S7168 .f32 := broadcastInDim S7168 ![] bcast_S_S7168 main_cst
  let main_v2 : IVec S7168 1 := cmpf .ole main_v0 main_v1
  main_v2
-- ==== Kernel.lean ====
abbrev S3x1024x7168 : Shape := ⟨3, ![3, 1024, 7168]⟩
abbrev S3x1024 : Shape := ⟨2, ![3, 1024]⟩
abbrev S7168 : Shape := ⟨1, ![7168]⟩
abbrev S6144x7168 : Shape := ⟨2, ![6144, 7168]⟩
abbrev S6144 : Shape := ⟨1, ![6144]⟩
abbrev S64 : Shape := ⟨1, ![64]⟩
abbrev S_ : Shape := ⟨0, ![]⟩
abbrev S128 : Shape := ⟨1, ![128]⟩
abbrev S1x128 : Shape := ⟨2, ![1, 128]⟩
abbrev S3072x7168 : Shape := ⟨2, ![3072, 7168]⟩
abbrev S3072x1 : Shape := ⟨2, ![3072, 1]⟩
abbrev S1x7168 : Shape := ⟨2, ![1, 7168]⟩
abbrev S1x6144 : Shape := ⟨2, ![1, 6144]⟩
abbrev S3072x16x128 : Shape := ⟨3, ![3072, 16, 128]⟩
abbrev S512x7168 : Shape := ⟨2, ![512, 7168]⟩
abbrev S512x1 : Shape := ⟨2, ![512, 1]⟩
abbrev S1024x7168 : Shape := ⟨2, ![1024, 7168]⟩
abbrev S1x1024 : Shape := ⟨2, ![1, 1024]⟩
abbrev S512x8x128 : Shape := ⟨3, ![512, 8, 128]⟩
abbrev S512x128 : Shape := ⟨2, ![512, 128]⟩
abbrev S32x7168 : Shape := ⟨2, ![32, 7168]⟩
abbrev S32 : Shape := ⟨1, ![32]⟩
abbrev S32x1 : Shape := ⟨2, ![32, 1]⟩
abbrev S512x1024 : Shape := ⟨2, ![512, 1024]⟩
abbrev S512x1x128 : Shape := ⟨3, ![512, 1, 128]⟩

abbrev nBuf : Space → Nat
  | .hbm => 30
  | .vmem => 22
  | .smem => 0
  | _ => 0

abbrev bufTy : (tb : Table) → Fin (tcTables nBuf tb) → BufTy
  | .hbm, ⟨0, _⟩ => ⟨S3x1024x7168, .bf16⟩
  | .hbm, ⟨1, _⟩ => ⟨S3x1024, .i32⟩
  | .hbm, ⟨2, _⟩ => ⟨S7168, .f32⟩
  | .hbm, ⟨3, _⟩ => ⟨S6144x7168, .fp8e4m3⟩
  | .hbm, ⟨4, _⟩ => ⟨S6144, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S128, .f32⟩
  | .hbm, ⟨20, _⟩ => ⟨S1x128, .f32⟩
  | .hbm, ⟨21, _⟩ => ⟨S3072x7168, .bf16⟩
  | .hbm, ⟨22, _⟩ => ⟨S3072x1, .i32⟩
  | .hbm, ⟨23, _⟩ => ⟨S1x7168, .f32⟩
  | .hbm, ⟨24, _⟩ => ⟨S1x6144, .f32⟩
  | .hbm, ⟨25, _⟩ => ⟨S3072x16x128, .bf16⟩
  | .hbm, ⟨26, _⟩ => ⟨S3072x16x128, .bf16⟩
  | .hbm, ⟨27, _⟩ => ⟨S3072x16x128, .bf16⟩
  | .hbm, ⟨28, _⟩ => ⟨S3072x7168, .fp8e4m3⟩
  | .hbm, ⟨29, _⟩ => ⟨S3072x1, .f32⟩
  | .local _ .vmem, ⟨0, _⟩ => ⟨S512x7168, .bf16⟩
  | .local _ .vmem, ⟨1, _⟩ => ⟨S512x7168, .bf16⟩
  | .local _ .vmem, ⟨2, _⟩ => ⟨S512x1, .i32⟩
  | .local _ .vmem, ⟨3, _⟩ => ⟨S512x1, .i32⟩
  | .local _ .vmem, ⟨4, _⟩ => ⟨S1x7168, .f32⟩
  | .local _ .vmem, ⟨5, _⟩ => ⟨S1x128, .f32⟩
  | .local _ .vmem, ⟨6, _⟩ => ⟨S1024x7168, .fp8e4m3⟩
  | .local _ .vmem, ⟨7, _⟩ => ⟨S1024x7168, .fp8e4m3⟩
  | .local _ .vmem, ⟨8, _⟩ => ⟨S1x1024, .f32⟩
  | .local _ .vmem, ⟨9, _⟩ => ⟨S1x1024, .f32⟩
  | .local _ .vmem, ⟨10, _⟩ => ⟨S512x8x128, .bf16⟩
  | .local _ .vmem, ⟨11, _⟩ => ⟨S512x8x128, .bf16⟩
  | .local _ .vmem, ⟨12, _⟩ => ⟨S512x8x128, .bf16⟩
  | .local _ .vmem, ⟨13, _⟩ => ⟨S512x8x128, .bf16⟩
  | .local _ .vmem, ⟨14, _⟩ => ⟨S512x8x128, .bf16⟩
  | .local _ .vmem, ⟨15, _⟩ => ⟨S512x8x128, .bf16⟩
  | .local _ .vmem, ⟨16, _⟩ => ⟨S512x7168, .fp8e4m3⟩
  | .local _ .vmem, ⟨17, _⟩ => ⟨S512x7168, .fp8e4m3⟩
  | .local _ .vmem, ⟨18, _⟩ => ⟨S512x1, .f32⟩
  | .local _ .vmem, ⟨19, _⟩ => ⟨S512x1, .f32⟩
  | .local _ .vmem, ⟨20, _⟩ => ⟨S512x128, .f32⟩
  | .local _ .vmem, ⟨21, _⟩ => ⟨S512x128, .f32⟩
  | _, _ => ⟨S3x1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![6, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_13 : BitVec 32 := 0#32
  let c16_i32 : BitVec 32 := 16#32
  let v26 : BitVec 32 := Scalar.addi c0_i32_13 c16_i32
  let c1_i32 : BitVec 32 := 1#32
  ⟨c0_i32_13, v26, c1_i32⟩
def k0_off1 (k0_t1 : Fin k0_t1_loop.trips) : Fin 2 → Nat :=
  let c0_i32_13 : BitVec 32 := 0#32
  let c1_i32 : BitVec 32 := 1#32
  let arg15 : BitVec 32 := Scf.iv c0_i32_13 c1_i32 k0_t1
  let c32_i32 : BitVec 32 := 32#32
  let v50 : BitVec 32 := Scalar.muli arg15 c32_i32
  let v51 : Index := Scalar.indexCast v50
  let c0_24 : Index := 0#32
  ![v51.toNat, 0]
def k0_off2 (k0_t1 : Fin k0_t1_loop.trips) : Fin 2 → Nat :=
  let c0_i32_13 : BitVec 32 := 0#32
  let c1_i32 : BitVec 32 := 1#32
  let arg15 : BitVec 32 := Scf.iv c0_i32_13 c1_i32 k0_t1
  let c32_i32 : BitVec 32 := 32#32
  let v50 : BitVec 32 := Scalar.muli arg15 c32_i32
  let v172 : Index := Scalar.indexCast v50
  let c0_62 : Index := 0#32
  ![v172.toNat, 0]
def k0_cond2 (i : grid0.Coords) : BitVec 1 :=
  let arg1 : BitVec 32 := BitVec.ofNat 32 (i 1).val
  let c2_i32 : BitVec 32 := 2#32
  let v15 : BitVec 1 := Scalar.cmpi .slt arg1 c2_i32
  let v16 : BitVec 32 := Scalar.extui v15
  let c0_i32_8 : BitVec 32 := 0#32
  let v17 : BitVec 1 := Scalar.cmpi .ne v16 c0_i32_8
  v17

def k0_cond3 (i : grid0.Coords) : BitVec 1 :=
  let arg1 : BitVec 32 := BitVec.ofNat 32 (i 1).val
  let c2_i32_9 : BitVec 32 := 2#32
  let v18 : BitVec 1 := Scalar.cmpi .sge arg1 c2_i32_9
  let c4_i32 : BitVec 32 := 4#32
  let v19 : BitVec 1 := Scalar.cmpi .slt arg1 c4_i32
  let v20 : BitVec 1 := Scalar.andi v18 v19
  let v21 : BitVec 32 := Scalar.extui v20
  let c0_i32_10 : BitVec 32 := 0#32
  let v22 : BitVec 1 := Scalar.cmpi .ne v21 c0_i32_10
  v22

def k0_cond4 (i : grid0.Coords) : BitVec 1 :=
  let arg1 : BitVec 32 := BitVec.ofNat 32 (i 1).val
  let c4_i32_11 : BitVec 32 := 4#32
  let v23 : BitVec 1 := Scalar.cmpi .sge arg1 c4_i32_11
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![arg0.toNat, v2.toNat, c0_i32_1.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![arg0.toNat, v2.toNat, c0_i32_0.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![arg0.toNat, v2.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x7168 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x8x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x8x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x8x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x7168 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "inv_d" => some ((1 / 7168 : ℝ) : EReal)
  | _ => none
-- ==== ReferenceIdeal.lean ====
abbrev S3x1024x7168 : Shape := ⟨3, ![3, 1024, 7168]⟩
abbrev S3x1024 : Shape := ⟨2, ![3, 1024]⟩
abbrev S7168 : Shape := ⟨1, ![7168]⟩
abbrev S6144x7168 : Shape := ⟨2, ![6144, 7168]⟩
abbrev S6144 : Shape := ⟨1, ![6144]⟩
abbrev S64 : Shape := ⟨1, ![64]⟩
abbrev S_ : Shape := ⟨0, ![]⟩
abbrev S3072x7168 : Shape := ⟨2, ![3072, 7168]⟩
abbrev S3072x1 : Shape := ⟨2, ![3072, 1]⟩
abbrev S1x7168 : Shape := ⟨2, ![1, 7168]⟩
abbrev S1x64 : Shape := ⟨2, ![1, 64]⟩
abbrev S1x6144 : Shape := ⟨2, ![1, 6144]⟩
abbrev S3072x16x128 : Shape := ⟨3, ![3072, 16, 128]⟩
abbrev S3072 : Shape := ⟨1, ![3072]⟩
abbrev S1x256 : Shape := ⟨2, ![1, 256]⟩
abbrev S3072x256 : Shape := ⟨2, ![3072, 256]⟩
abbrev S3072x6144 : Shape := ⟨2, ![3072, 6144]⟩
abbrev S3072x64 : Shape := ⟨2, ![3072, 64]⟩
abbrev S3072x1x64 : Shape := ⟨3, ![3072, 1, 64]⟩
abbrev S3072x2048 : Shape := ⟨2, ![3072, 2048]⟩
abbrev S3072x16x64 : Shape := ⟨3, ![3072, 16, 64]⟩

abbrev nBuf : Space → Nat
  | .hbm => 29
  | .vmem => 11
  | .smem => 0
  | _ => 0

abbrev bufTy : (tb : Table) → Fin (tcTables nBuf tb) → BufTy
  | .hbm, ⟨0, _⟩ => ⟨S3x1024x7168, .bf16⟩
  | .hbm, ⟨1, _⟩ => ⟨S3x1024, .i32⟩
  | .hbm, ⟨2, _⟩ => ⟨S7168, .f32⟩
  | .hbm, ⟨3, _⟩ => ⟨S6144x7168, .fp8e4m3⟩
  | .hbm, ⟨4, _⟩ => ⟨S6144, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S3072x7168, .bf16⟩
  | .hbm, ⟨20, _⟩ => ⟨S3072x1, .i32⟩
  | .hbm, ⟨21, _⟩ => ⟨S1x7168, .f32⟩
  | .hbm, ⟨22, _⟩ => ⟨S1x64, .f32⟩
  | .hbm, ⟨23, _⟩ => ⟨S1x6144, .f32⟩
  | .hbm, ⟨24, _⟩ => ⟨S3072x16x128, .bf16⟩
  | .hbm, ⟨25, _⟩ => ⟨S3072x16x128, .bf16⟩
  | .hbm, ⟨26, _⟩ => ⟨S3072x16x128, .bf16⟩
  | .hbm, ⟨27, _⟩ => ⟨S3072x7168, .fp8e4m3⟩
  | .hbm, ⟨28, _⟩ => ⟨S3072x1, .f32⟩
  | .local _ .vmem, ⟨0, _⟩ => ⟨S3072x7168, .bf16⟩
  | .local _ .vmem, ⟨1, _⟩ => ⟨S3072x1, .i32⟩
  | .local _ .vmem, ⟨2, _⟩ => ⟨S1x7168, .f32⟩
  | .local _ .vmem, ⟨3, _⟩ => ⟨S1x64, .f32⟩
  | .local _ .vmem, ⟨4, _⟩ => ⟨S6144x7168, .fp8e4m3⟩
  | .local _ .vmem, ⟨5, _⟩ => ⟨S1x6144, .f32⟩
  | .local _ .vmem, ⟨6, _⟩ => ⟨S3072x16x128, .bf16⟩
  | .local _ .vmem, ⟨7, _⟩ => ⟨S3072x16x128, .bf16⟩
  | .local _ .vmem, ⟨8, _⟩ => ⟨S3072x16x128, .bf16⟩
  | .local _ .vmem, ⟨9, _⟩ => ⟨S3072x7168, .fp8e4m3⟩
  | .local _ .vmem, ⟨10, _⟩ => ⟨S3072x1, .f32⟩
  | _, _ => ⟨S3x1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S3072x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x16x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3072x16x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3072x16x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3072x7168 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3072x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Spec.lean ====
/-
  The mathematics both programs compute, on extended reals: powers of two named by their exponent field, the exponent search
  of the kernel and the reference's largest power of two below a value, and that the two give one scale.
-/
module

public import Idealize.ShloMosaic.PureOps.Ideal.Laws
public import Idealize.ShloMosaic.Lib.ValueIdx
public import Idealize.ShloMosaic.Lib.Pipeline.Value

@[expose] public section

noncomputable section

namespace Cert.Spec

open Idealize.ShloMosaic

/-- The f32 whose exponent field is `b` and whose fraction is zero. -/
def pwB (b : BitVec 32) : EReal := Ideal.ofBits .f32 (IntOp.shli .vector b 23#32)

/-- The bits of `n` shifted into an f32's exponent field, read field by field. -/
theorem fields : ∀ n : Fin 256,
    ((IntOp.shli .vector (BitVec.ofNat 32 n.val) 23#32).extractLsb' 23 8).toNat = n.val
    ∧ ((IntOp.shli .vector (BitVec.ofNat 32 n.val) 23#32).extractLsb' 0 23).toNat = 0
    ∧ ((IntOp.shli .vector (BitVec.ofNat 32 n.val) 23#32).extractLsb' 31 1 == 1#1) = false := by
  decide +kernel

theorem pwB_zero : pwB 0#32 = 0 := by
  obtain ⟨h1, h2, h3⟩ := fields ⟨0, by decide⟩
  simp only [pwB, Ideal.ofBits, Ideal.ieee]
  dsimp only at h1 h2 h3
  rw [show (8 + 23 : ℕ) = 31 from rfl, h1, h2, h3]
  simp

theorem pwB_top : pwB 255#32 = ⊤ := by
  obtain ⟨h1, h2, h3⟩ := fields ⟨255, by decide⟩
  simp only [pwB, Ideal.ofBits, Ideal.ieee]
  dsimp only at h1 h2 h3
  rw [show (8 + 23 : ℕ) = 31 from rfl, h1, h2, h3]
  simp

/-- A normal exponent field `n` names `2 ^ (n - 127)`. -/
theorem pwB_normal {n : ℕ} (h0 : 1 ≤ n) (h1 : n ≤ 254) : pwB (BitVec.ofNat 32 n) = (((2 : ℝ) ^ ((n : ℤ) - 127) : ℝ) : EReal) := by
  obtain ⟨e1, e2, e3⟩ := fields ⟨n, by omega⟩
  simp only [pwB, Ideal.ofBits, Ideal.ieee]
  dsimp only at e1 e2 e3
  rw [show (8 + 23 : ℕ) = 31 from rfl, e1, e2, e3]
  rw [if_neg (by omega), if_neg (by omega), EReal.coe_eq_coe_iff, Nat.add_zero]
  rw [show ((2 ^ 23 : ℕ) : ℝ) = (2 : ℝ) ^ (23 : ℤ) by norm_cast]
  rw [if_neg (by decide), one_mul, ← zpow_add₀ (by norm_num)]
  refine congrArg (fun z : ℤ => (2 : ℝ) ^ z) ?_
  push_cast
  ring

/-! ### The kernel's search -/

/-- One step of the search, as the kernel spells it: the bit is added unless `a` is below the power it would name. -/
def kstep (a : EReal) (bit n : BitVec 32) : BitVec 32 :=
  Scalar.select (Ideal.cmp .olt a (pwB (IntOp.addi n bit))) n (IntOp.addi n bit)

/-- The search's eight steps. -/
def kbits (a : EReal) : BitVec 32 :=
  kstep a 1#32 (kstep a 2#32 (kstep a 4#32 (kstep a 8#32 (kstep a 16#32 (kstep a 32#32 (kstep a 64#32 (kstep a 128#32 0#32)))))))

/-- The kernel's exponent. -/
def kexp (a : EReal) : BitVec 32 :=
  Scalar.select (IntOp.cmpi .eq (kbits a) 0#32) 0#32 (IntOp.subi (kbits a) 126#32)

/-- The kernel's scale and its inverse. -/
def kscale (a : EReal) : EReal := pwB (IntOp.addi 127#32 (kexp a))
def kinv (a : EReal) : EReal := pwB (IntOp.subi 127#32 (kexp a))

/-- What the search keeps: the power named is at most `a`, the one `k` further exceeds it (or is past the last field). -/
def Inv (a : EReal) (k : ℕ) (b : BitVec 32) : Prop :=
  ∃ n : ℕ, b = BitVec.ofNat 32 n ∧ n + k ≤ 256 ∧ pwB (BitVec.ofNat 32 n) ≤ a ∧ (n + k = 256 ∨ a < pwB (BitVec.ofNat 32 (n + k)))

theorem kstep_inv {a : EReal} {k : ℕ} {b : BitVec 32} (h : Inv a (2 * k) b) : Inv a k (kstep a (BitVec.ofNat 32 k) b) := by
  obtain ⟨n, rfl, hn, hle, hlt⟩ := h
  have ha : IntOp.addi (BitVec.ofNat 32 n) (BitVec.ofNat 32 k) = BitVec.ofNat 32 (n + k) := by
    show BitVec.ofNat 32 n + BitVec.ofNat 32 k = _
    rw [BitVec.ofNat_add]
  unfold kstep
  rw [ha]
  by_cases hc : a < pwB (BitVec.ofNat 32 (n + k))
  · refine ⟨n, ?_, by omega, hle, .inr hc⟩
    simp [Scalar.select, Ideal.cmp, hc]
  · refine ⟨n + k, ?_, by omega, not_lt.mp hc, ?_⟩
    · simp [Scalar.select, Ideal.cmp, hc]
    · rcases hlt with h | h
      · exact .inl (by omega)
      · exact .inr (by rwa [show n + k + k = n + 2 * k by omega])

theorem kbits_inv {a : EReal} (h : 0 ≤ a) : Inv a 1 (kbits a) := by
  have h0 : Inv a (2 * 128) 0#32 := ⟨0, rfl, by omega, by rw [show BitVec.ofNat 32 0 = 0#32 from rfl, pwB_zero]; exact h, .inl rfl⟩
  have h1 : Inv a (2 * 64) _ := kstep_inv h0
  have h2 : Inv a (2 * 32) _ := kstep_inv h1
  have h3 : Inv a (2 * 16) _ := kstep_inv h2
  have h4 : Inv a (2 * 8) _ := kstep_inv h3
  have h5 : Inv a (2 * 4) _ := kstep_inv h4
  have h6 : Inv a (2 * 2) _ := kstep_inv h5
  have h7 : Inv a (2 * 1) _ := kstep_inv h6
  exact kstep_inv h7

/-! ### The reference's exponent -/

/-- The reference's exponent: `n + 1` for the largest `n ≥ -126` with `2 ^ n ≤ a`, and `0` below the smallest normal. -/
def refE (a : EReal) : EReal :=
  if a < pwB 1#32 then 0
  else (Finset.univ : Finset (Fin 256)).fold max ⊥ fun k =>
    if Ideal.exp2 (((k.val : ℝ) - 126 : ℝ) : EReal) ≤ a then (((k.val : ℝ) - 126 + 1 : ℝ) : EReal) else ⊥

def refScale (a : EReal) : EReal := Ideal.exp2 (refE a)
def refInv (a : EReal) : EReal := Ideal.exp2 (0 - refE a)

theorem exp2_int (z : ℤ) : Ideal.exp2 ((z : ℝ) : EReal) = (((2 : ℝ) ^ z : ℝ) : EReal) := by
  rw [Ideal.exp2_coe]
  congr 1
  exact Real.rpow_intCast 2 z

/-- Powers of two of integer exponents compare as the exponents do. -/
theorem zpow_le_iff (x y : ℤ) : ((((2 : ℝ) ^ x : ℝ) : EReal) ≤ (((2 : ℝ) ^ y : ℝ) : EReal)) ↔ x ≤ y := by
  rw [EReal.coe_le_coe_iff]; exact zpow_le_zpow_iff_right₀ (by norm_num)

/-- Where the search ends at a normal field `n`, the reference's exponent is `n - 126`. -/
theorem refE_normal {a : EReal} {n : ℕ} (h0 : 1 ≤ n) (h1 : n ≤ 253) (hle : pwB (BitVec.ofNat 32 n) ≤ a)
    (hlt : a < pwB (BitVec.ofNat 32 (n + 1))) : refE a = (((n : ℤ) - 126 : ℤ) : ℝ) := by
  rw [pwB_normal h0 (by omega)] at hle
  rw [pwB_normal (by omega) (by omega)] at hlt
  have hb : ∀ k : Fin 256, Ideal.exp2 (((k.val : ℝ) - 126 : ℝ) : EReal) = (((2 : ℝ) ^ ((k.val : ℤ) - 126) : ℝ) : EReal) := fun k => by
    rw [← exp2_int]; push_cast; rfl
  unfold refE
  rw [if_neg]
  swap
  · rw [show (1#32 : BitVec 32) = BitVec.ofNat 32 1 from rfl, pwB_normal (by omega) (by omega), not_lt]
    exact le_trans ((zpow_le_iff _ _).mpr (by omega)) hle
  apply le_antisymm
  · rw [Finset.fold_max_le]
    refine ⟨bot_le, fun k _ => ?_⟩
    split
    · rename_i hk
      rw [hb] at hk
      have hk2 := lt_of_le_of_lt hk hlt
      rw [EReal.coe_lt_coe_iff] at hk2
      have hk3 : (k.val : ℤ) - 126 < (n + 1 : ℕ) - 127 := (zpow_lt_zpow_iff_right₀ (by norm_num)).mp hk2
      rw [EReal.coe_le_coe_iff]
      have hk4 : (k.val : ℤ) + 1 ≤ n := by push_cast at hk3; omega
      have hk5 : ((k.val : ℝ)) + 1 ≤ n := by exact_mod_cast hk4
      push_cast
      linarith
    · exact bot_le
  · rw [Finset.le_fold_max]
    refine .inr ⟨⟨n - 1, by omega⟩, Finset.mem_univ _, ?_⟩
    rw [if_pos]
    · rw [EReal.coe_le_coe_iff]
      have : ((n - 1 : ℕ) : ℝ) = (n : ℝ) - 1 := by rw [Nat.cast_sub h0]; simp
      push_cast
      rw [this]; linarith
    · rw [hb]
      refine le_trans ((zpow_le_iff _ _).mpr ?_) hle
      dsimp only
      omega

/-- THE SCALES AGREE: below `2 ^ 126` the kernel's searched exponent gives the reference's scale and inverse. -/
theorem scales {a : EReal} (h0 : 0 ≤ a) (h1 : a < pwB 253#32) : kscale a = refScale a ∧ kinv a = refInv a := by
  obtain ⟨n, hn, h256, hle, hlt⟩ := kbits_inv h0
  have hn2 : n ≤ 252 := by
    by_contra hc
    have : pwB 253#32 ≤ pwB (BitVec.ofNat 32 n) := by
      rw [show (253#32 : BitVec 32) = BitVec.ofNat 32 253 from rfl, pwB_normal (by omega) (by omega)]
      have : n = 255 ∨ n ≤ 254 := by omega
      rcases this with rfl | h
      · rw [pwB_top]; exact le_top
      · rw [pwB_normal (by omega) h]; exact (zpow_le_iff _ _).mpr (by omega)
    exact absurd h1 (not_lt.mpr (this.trans hle))
  have hlt2 : a < pwB (BitVec.ofNat 32 (n + 1)) := by
    rcases hlt with h | h
    · omega
    · exact h
  unfold kscale kinv kexp
  rw [hn]
  by_cases hz : n = 0
  · subst hz
    have hE : refE a = 0 := if_pos hlt2
    have h127 : pwB 127#32 = 1 := by
      rw [show (127#32 : BitVec 32) = BitVec.ofNat 32 127 from rfl, pwB_normal (by omega) (by omega)]; simp
    have hs : Scalar.select (IntOp.cmpi .eq (BitVec.ofNat 32 0) 0#32) 0#32 (IntOp.subi (BitVec.ofNat 32 0) 126#32) = 0#32 := by decide
    have h1 : Ideal.exp2 0 = 1 := by
      have := exp2_int 0; simpa using this
    rw [hs]
    unfold refScale refInv
    rw [hE, sub_zero, h1]
    exact ⟨h127, h127⟩
  · have hE := refE_normal (by omega) (by omega) hle hlt2
    have hs : ∀ n : Fin 253, n.val ≠ 0 →
        IntOp.addi 127#32 (Scalar.select (IntOp.cmpi .eq (BitVec.ofNat 32 n.val) 0#32) 0#32 (IntOp.subi (BitVec.ofNat 32 n.val) 126#32)) = BitVec.ofNat 32 (n.val + 1)
        ∧ IntOp.subi 127#32 (Scalar.select (IntOp.cmpi .eq (BitVec.ofNat 32 n.val) 0#32) 0#32 (IntOp.subi (BitVec.ofNat 32 n.val) 126#32)) = BitVec.ofNat 32 (253 - n.val) := by
      decide +kernel
    obtain ⟨s1, s2⟩ := hs ⟨n, by omega⟩ hz
    dsimp only at s1 s2
    rw [s1, s2, pwB_normal (by omega) (by omega), pwB_normal (by omega) (by omega)]
    unfold refScale refInv
    rw [hE, exp2_int, show (0 : EReal) - ((((n : ℤ) - 126 : ℤ) : ℝ) : EReal) = (((126 - (n : ℤ) : ℤ) : ℝ) : EReal) by
      rw [← EReal.coe_zero, ← EReal.coe_sub]; congr 1; push_cast; ring, exp2_int]
    refine ⟨?_, ?_⟩
    · congr 2; push_cast; ring
    · congr 2; rw [Nat.cast_sub (by omega)]; push_cast; ring

end Cert.Spec

end
-- ==== Proof.Rows.lean ====
/-
  One token's row: its normalised entries, the value its scale is taken from, its scale and its codes; and that with gains
  no greater than the greatest finite f32 that value lies where the two programs' scales agree.
-/
module

public import proofs.«01_k».proof.Proof.Spec

@[expose] public section

noncomputable section

namespace Cert.Spec

open Idealize.ShloMosaic

/-- A positive normal f32 pattern, from its two fields. -/
theorem ofBits_f32_pos (b : BitVec 32) (ex fr : ℕ) (h1 : (b.extractLsb' 23 8).toNat = ex) (h2 : (b.extractLsb' 0 23).toNat = fr)
    (h3 : (b.extractLsb' 31 1 == 1#1) = false) (h4 : ex ≠ 255) (h5 : ex ≠ 0) :
    Ideal.ofBits .f32 b = ((((2 ^ 23 + fr : ℕ) : ℝ) * (2 : ℝ) ^ ((ex : ℤ) - 150) : ℝ) : EReal) := by
  simp only [Ideal.ofBits, Ideal.ieee]
  rw [show (8 + 23 : ℕ) = 31 from rfl, h1, h2, h3]
  rw [if_neg (by simpa using h4), if_neg h5, EReal.coe_eq_coe_iff, if_neg (by decide), one_mul]
  refine congrArg (fun z : ℤ => ((2 ^ 23 + fr : ℕ) : ℝ) * (2 : ℝ) ^ z) ?_
  push_cast
  ring

/-- The norm's epsilon, the reciprocal of the greatest code, and the greatest finite f32, as the programs' patterns name them. -/
def eps : EReal := Ideal.ofBits .f32 0x358637BD#32
def c448 : EReal := Ideal.ofBits .f32 0x3B124925#32
def fmax : EReal := Ideal.ofBits .f32 0x7F7FFFFF#32

theorem eps_eq : ∃ r : ℝ, 0 < r ∧ eps = (r : EReal) :=
  ⟨_, by positivity, ofBits_f32_pos 0x358637BD#32 107 407485 (by decide) (by decide) (by decide) (by decide) (by decide)⟩

theorem c448_eq : ∃ r : ℝ, 0 < r ∧ r ≤ 1 / 400 ∧ c448 = (r : EReal) :=
  ⟨_, by positivity, by norm_num, ofBits_f32_pos 0x3B124925#32 118 1198373 (by decide) (by decide) (by decide) (by decide) (by decide)⟩

theorem fmax_eq : ∃ r : ℝ, 0 < r ∧ r ≤ 2 ^ 128 ∧ fmax = (r : EReal) :=
  ⟨_, by positivity, by norm_num, ofBits_f32_pos 0x7F7FFFFF#32 254 8388607 (by decide) (by decide) (by decide) (by decide) (by decide)⟩

theorem ofBits_7168 : Ideal.ofBits .f32 0x45E00000#32 = ((7168 : ℝ) : EReal) := by
  rw [ofBits_f32_pos 0x45E00000#32 139 6291456 (by decide) (by decide) (by decide) (by decide) (by decide)]
  rw [EReal.coe_eq_coe_iff]; norm_num

theorem ofBits_126 : Ideal.ofBits .f32 0x42FC0000#32 = ((126 : ℝ) : EReal) := by
  rw [ofBits_f32_pos 0x42FC0000#32 133 8126464 (by decide) (by decide) (by decide) (by decide) (by decide)]
  rw [EReal.coe_eq_coe_iff]; norm_num

theorem ofBits_one : Ideal.ofBits .f32 0x3F800000#32 = ((1 : ℝ) : EReal) := by
  rw [ofBits_f32_pos 0x3F800000#32 127 0 (by decide) (by decide) (by decide) (by decide) (by decide)]
  rw [EReal.coe_eq_coe_iff]; norm_num

theorem ofBits_neg_inf : Ideal.ofBits .f32 0xFF800000#32 = ⊥ := by
  simp [Ideal.ofBits, Ideal.ieee]

/-- An RMS-normalised row `X` with gains `g`, at entry `j`. -/
def hRow (X g : Fin 7168 → EReal) (j : Fin 7168) : EReal :=
  X j * Ideal.rsqrt ((∑ k, X k * X k) * ((1 / 7168 : ℝ) : EReal) + eps) * g j

/-- The greatest magnitude of the row's normalised entries, over the greatest code. -/
def aRow (X g : Fin 7168 → EReal) : EReal :=
  (Finset.univ : Finset (Fin 7168)).fold max ⊥ (fun j => max (hRow X g j) (-(hRow X g j))) * c448

/-- The row's scale and its codes. -/
def scaleRow (X g : Fin 7168 → EReal) : EReal := refScale (aRow X g)
def codeRow (X g : Fin 7168 → EReal) (j : Fin 7168) : EReal :=
  min (Ideal.ofBits .f32 0x43E00000#32) (max (Ideal.ofBits .f32 0xC3E00000#32) (hRow X g j * refInv (aRow X g)))

theorem mul_self_nonneg (x : EReal) : 0 ≤ x * x := by
  induction x with
  | bot => simp
  | coe r => rw [← EReal.coe_mul]; exact EReal.coe_nonneg.mpr (_root_.mul_self_nonneg r)
  | top => simp

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Every normalised entry is a real of magnitude at most `85 · 2^128`. -/
theorem hRow_bound (X g : Fin 7168 → EReal) (hg : ∀ j, max (g j) (-(g j)) ≤ fmax) (j : Fin 7168) :
    max (hRow X g j) (-(hRow X g j)) ≤ ((85 * 2 ^ 128 : ℝ) : EReal) := by
  obtain ⟨e, he, hee⟩ := eps_eq
  obtain ⟨f, hf, hf2, hfe⟩ := fmax_eq
  unfold hRow
  rw [hee]
  by_cases hX : ∃ k, X k = ⊤ ∨ X k = ⊥
  · obtain ⟨k, hk⟩ := hX
    have hs : (∑ k, X k * X k) = ⊤ := by
      rw [eq_top_iff]
      have h1 : X k * X k ≤ ∑ k, X k * X k := Finset.single_le_sum (f := fun k => X k * X k) (fun i _ => mul_self_nonneg (X i)) (Finset.mem_univ k)
      have h2 : X k * X k = ⊤ := by rcases hk with h | h <;> rw [h] <;> simp
      rw [← h2]; exact h1
    rw [hs, EReal.top_mul_coe_of_pos (by norm_num), EReal.top_add_coe, Ideal.rsqrt_top, mul_zero, zero_mul, neg_zero, max_self]
    exact EReal.coe_nonneg.mpr (by norm_num)
  · have hx : ∀ k, ∃ r : ℝ, X k = (r : EReal) := fun k => by
      have h1 : X k ≠ ⊤ := fun h => hX ⟨k, .inl h⟩
      have h2 : X k ≠ ⊥ := fun h => hX ⟨k, .inr h⟩
      exact ⟨(X k).toReal, (EReal.coe_toReal h1 h2).symm⟩
    choose x hx using hx
    have hgj := hg j
    rw [hfe] at hgj
    obtain ⟨hg1, hg2⟩ := max_le_iff.mp hgj
    have hgt : g j ≠ ⊤ := fun h => by rw [h] at hg1; exact absurd hg1 (not_le.mpr (EReal.coe_lt_top f))
    have hgb : g j ≠ ⊥ := fun h => by rw [h, EReal.neg_bot] at hg2; exact absurd hg2 (not_le.mpr (EReal.coe_lt_top f))
    obtain ⟨y, hy⟩ : ∃ y : ℝ, g j = (y : EReal) := ⟨(g j).toReal, (EReal.coe_toReal hgt hgb).symm⟩
    rw [hy] at hg1 hg2 ⊢
    rw [EReal.coe_le_coe_iff] at hg1
    rw [← EReal.coe_neg, EReal.coe_le_coe_iff] at hg2
    have hy2 : |y| ≤ 2 ^ 128 := abs_le.mpr ⟨by linarith, by linarith⟩
    have hsum : (∑ k, X k * X k) = ((∑ k, x k * x k : ℝ) : EReal) := by
      rw [coe_sum]; exact Finset.sum_congr rfl fun k _ => by rw [hx k, EReal.coe_mul]
    rw [hsum, hx j, ← EReal.coe_mul, ← EReal.coe_add]
    have hS0 : 0 ≤ ∑ k, x k * x k := Finset.sum_nonneg fun k _ => _root_.mul_self_nonneg (x k)
    have hSj : x j * x j ≤ ∑ k, x k * x k := Finset.single_le_sum (f := fun k => x k * x k) (fun i _ => _root_.mul_self_nonneg (x i)) (Finset.mem_univ j)
    generalize (∑ k, x k * x k) = S at hS0 hSj
    have hT : 0 < S * (1 / 7168) + e := by positivity
    have hTS : S ≤ 7168 * (S * (1 / 7168) + e) := by linarith
    generalize S * (1 / 7168) + e = T at hT hTS
    rw [Ideal.rsqrt_coe, if_neg (not_lt.mpr hT.le), if_neg hT.ne', ← EReal.coe_mul, ← EReal.coe_mul, ← EReal.coe_neg]
    have hq : 0 < Real.sqrt T := Real.sqrt_pos.mpr hT
    have hxq : |x j| ≤ 85 * Real.sqrt T := by
      apply abs_le_of_sq_le_sq _ (by positivity)
      rw [mul_pow, Real.sq_sqrt hT.le]
      nlinarith
    have h1 : |x j * (Real.sqrt T)⁻¹| ≤ 85 := by
      rw [abs_mul, abs_of_pos (inv_pos.mpr hq), ← div_eq_mul_inv, div_le_iff₀ hq]; exact hxq
    have h2 : |x j * (Real.sqrt T)⁻¹ * y| ≤ 85 * 2 ^ 128 := by
      rw [abs_mul]; exact mul_le_mul h1 hy2 (abs_nonneg _) (by norm_num)
    obtain ⟨h3, h4⟩ := abs_le.mp h2
    refine max_le ?_ ?_ <;> rw [EReal.coe_le_coe_iff] <;> linarith

/-- So the value a row's scale is taken from is nonnegative and below `2^126`. -/
theorem aRow_bound (X g : Fin 7168 → EReal) (hg : ∀ j, max (g j) (-(g j)) ≤ fmax) : 0 ≤ aRow X g ∧ aRow X g < pwB 253#32 := by
  obtain ⟨c, hc, hc2, hce⟩ := c448_eq
  unfold aRow
  rw [hce]
  have hle : (Finset.univ : Finset (Fin 7168)).fold max ⊥ (fun j => max (hRow X g j) (-(hRow X g j))) ≤ ((85 * 2 ^ 128 : ℝ) : EReal) := by
    rw [Finset.fold_max_le]; exact ⟨bot_le, fun j _ => hRow_bound X g hg j⟩
  have hge : 0 ≤ (Finset.univ : Finset (Fin 7168)).fold max ⊥ (fun j => max (hRow X g j) (-(hRow X g j))) := by
    rw [Finset.le_fold_max]
    refine .inr ⟨0, Finset.mem_univ _, ?_⟩
    rcases le_total 0 (hRow X g 0) with h | h
    · exact le_max_of_le_left h
    · exact le_max_of_le_right (by simpa using h)
  generalize (Finset.univ : Finset (Fin 7168)).fold max ⊥ (fun j => max (hRow X g j) (-(hRow X g j))) = M at hle hge
  have hMt : M ≠ ⊤ := fun h => by rw [h] at hle; exact absurd hle (not_le.mpr (EReal.coe_lt_top _))
  have hMb : M ≠ ⊥ := fun h => by rw [h] at hge; exact absurd hge (not_le.mpr (EReal.bot_lt_coe 0))
  obtain ⟨r, rfl⟩ : ∃ r : ℝ, M = (r : EReal) := ⟨M.toReal, (EReal.coe_toReal hMt hMb).symm⟩
  rw [EReal.coe_le_coe_iff] at hle
  have hge2 : 0 ≤ r := EReal.coe_nonneg.mp hge
  rw [← EReal.coe_mul, show (253#32 : BitVec 32) = BitVec.ofNat 32 253 from rfl, pwB_normal (by omega) (by omega)]
  refine ⟨EReal.coe_nonneg.mpr (by positivity), ?_⟩
  rw [EReal.coe_lt_coe_iff]
  have h1 : r * c ≤ (85 * 2 ^ 128) * (1 / 400) := mul_le_mul hle hc2 hc.le (by positivity)
  refine lt_of_le_of_lt h1 ?_
  norm_num

/-- The kernel's searched scale and inverse at a row's value are the reference's. -/
theorem row_scales (X g : Fin 7168 → EReal) (hg : ∀ j, max (g j) (-(g j)) ≤ fmax) :
    kscale (aRow X g) = scaleRow X g ∧ kinv (aRow X g) = refInv (aRow X g) :=
  scales (aRow_bound X g hg).1 (aRow_bound X g hg).2

end Cert.Spec

end
-- ==== Proof.Idx.lean ====
/-
  Small facts of reading shape operations at an index, stated once for every extent.
-/
module

public import proofs.«01_k».proof.Proof.Rows
public import Idealize.ShloMosaic.Lib.Pointwise.ElementwiseCore

@[expose] public section

noncomputable section

namespace Cert.Spec

open Idealize.ShloMosaic Idealize.ShloMosaic.ValueIdx

/-- A column broadcast along the lanes. -/
theorem bc_col {α : Type} {n m : ℕ} (x : (⟨2, ![n, 1]⟩ : Shape).Idx → α) (h : (⟨2, ![n, 1]⟩ : Shape).Broadcasts ⟨2, ![n, m]⟩)
    (i : Fin n) (j : Fin m) : broadcastTo ⟨2, ![n, m]⟩ x h (ix2 i j) = x (ix2 i 0) := by
  refine broadcastTo_apply x h _ _ fun a => ?_
  match a with
  | ⟨0, _⟩ =>
    show i.val = if n = 1 then 0 else i.val
    by_cases h1 : n = 1
    · subst h1; rw [if_pos rfl]; omega
    · rw [if_neg h1]
  | ⟨1, _⟩ => show 0 = if (1 : ℕ) = 1 then 0 else _; rw [if_pos rfl]

/-- A row broadcast along the rows. -/
theorem bc_row {α : Type} {n m : ℕ} (x : (⟨2, ![1, m]⟩ : Shape).Idx → α) (h : (⟨2, ![1, m]⟩ : Shape).Broadcasts ⟨2, ![n, m]⟩)
    (i : Fin n) (j : Fin m) : broadcastTo ⟨2, ![n, m]⟩ x h (ix2 i j) = x (ix2 0 j) := by
  refine broadcastTo_apply x h _ _ fun a => ?_
  match a with
  | ⟨0, _⟩ => show 0 = if (1 : ℕ) = 1 then 0 else _; rw [if_pos rfl]
  | ⟨1, _⟩ =>
    show j.val = if m = 1 then 0 else j.val
    by_cases h1 : m = 1
    · subst h1; rw [if_pos rfl]; omega
    · rw [if_neg h1]

/-- Angles broadcast along the heads. -/
theorem bc_mid {α : Type} {n h m : ℕ} (x : (⟨3, ![n, 1, m]⟩ : Shape).Idx → α) (hb : (⟨3, ![n, 1, m]⟩ : Shape).Broadcasts ⟨3, ![n, h, m]⟩)
    (i : Fin n) (c : Fin h) (j : Fin m) : broadcastTo ⟨3, ![n, h, m]⟩ x hb (ix3 i c j) = x (ix3 i 0 j) := by
  refine broadcastTo_apply x hb _ _ fun a => ?_
  match a with
  | ⟨0, _⟩ =>
    show i.val = if n = 1 then 0 else i.val
    by_cases h1 : n = 1
    · subst h1; rw [if_pos rfl]; omega
    · rw [if_neg h1]
  | ⟨1, _⟩ => show 0 = if (1 : ℕ) = 1 then 0 else _; rw [if_pos rfl]
  | ⟨2, _⟩ =>
    show j.val = if m = 1 then 0 else j.val
    by_cases h1 : m = 1
    · subst h1; rw [if_pos rfl]; omega
    · rw [if_neg h1]

theorem rm1 {n : ℕ} (i : Fin n) : ((⟨1, ![n]⟩ : Shape).rowMajor (ix1 i)).val = i.val := by
  rw [Shape.rowMajor_val_one]; rfl

theorem rm2 {n m : ℕ} (i : Fin n) (j : Fin m) : ((⟨2, ![n, m]⟩ : Shape).rowMajor (ix2 i j)).val = i.val * m + j.val := by
  rw [Shape.rowMajor_val_two]; rfl

theorem rm3 {n h m : ℕ} (i : Fin n) (c : Fin h) (j : Fin m) :
    ((⟨3, ![n, h, m]⟩ : Shape).rowMajor (ix3 i c j)).val = (i.val * h + c.val) * m + j.val := by
  rw [Shape.rowMajor_val_three]; rfl

/-- A vector viewed as a column. -/
theorem sc_col {α : Type} {n : ℕ} (x : (⟨1, ![n]⟩ : Shape).Idx → α) (h : (⟨1, ![n]⟩ : Shape).ShapeCasts ⟨2, ![n, 1]⟩) (i : Fin n) (j : Fin 1) :
    shapeCast ⟨2, ![n, 1]⟩ x h (ix2 i j) = x (ix1 i) := by
  refine shapeCast_apply x h _ _ ?_
  rw [rm1, rm2]; omega

/-- A matrix given a unit axis of heads. -/
theorem sc_mid {α : Type} {n m : ℕ} (x : (⟨2, ![n, m]⟩ : Shape).Idx → α) (h : (⟨2, ![n, m]⟩ : Shape).ShapeCasts ⟨3, ![n, 1, m]⟩)
    (i : Fin n) (c : Fin 1) (j : Fin m) : shapeCast ⟨3, ![n, 1, m]⟩ x h (ix3 i c j) = x (ix2 i j) := by
  refine shapeCast_apply x h _ _ ?_
  rw [rm2, rm3]
  obtain rfl : c = 0 := Subsingleton.elim _ _
  simp

/-- A matrix whose columns are split into heads. -/
theorem sc_heads {α : Type} {n p hN m : ℕ} (x : (⟨2, ![n, p]⟩ : Shape).Idx → α) (h : (⟨2, ![n, p]⟩ : Shape).ShapeCasts ⟨3, ![n, hN, m]⟩)
    (hp : p = hN * m) (i : Fin n) (c : Fin hN) (j : Fin m) (q : Fin p) (hq : q.val = c.val * m + j.val) :
    shapeCast ⟨3, ![n, hN, m]⟩ x h (ix3 i c j) = x (ix2 i q) := by
  refine shapeCast_apply x h _ _ ?_
  rw [rm2, rm3, hq, hp]
  ring

/-- A slice of columns. -/
theorem sl2 {α : Type} {n m p : ℕ} (o : ℕ) (x : (⟨2, ![n, m]⟩ : Shape).Idx → α) (h : (⟨2, ![n, m]⟩ : Shape).Slices ![0, o] ⟨2, ![n, p]⟩)
    (i : Fin n) (j : Fin p) (q : Fin m) (hq : q.val = o + j.val) :
    extractStridedSlice ⟨2, ![n, p]⟩ ![0, o] x h (ix2 i j) = x (ix2 i q) := by
  refine extractStridedSlice_apply _ x h _ _ fun a => ?_
  match a with
  | ⟨0, _⟩ => show i.val = 0 + i.val; omega
  | ⟨1, _⟩ => exact hq

/-- A slice of lanes of every head. -/
theorem sl3 {α : Type} {n hN m p : ℕ} (o : ℕ) (x : (⟨3, ![n, hN, m]⟩ : Shape).Idx → α)
    (h : (⟨3, ![n, hN, m]⟩ : Shape).Slices ![0, 0, o] ⟨3, ![n, hN, p]⟩)
    (i : Fin n) (c : Fin hN) (j : Fin p) (q : Fin m) (hq : q.val = o + j.val) :
    extractStridedSlice ⟨3, ![n, hN, p]⟩ ![0, 0, o] x h (ix3 i c j) = x (ix3 i c q) := by
  refine extractStridedSlice_apply _ x h _ _ fun a => ?_
  match a with
  | ⟨0, _⟩ => show i.val = 0 + i.val; omega
  | ⟨1, _⟩ => show c.val = 0 + c.val; omega
  | ⟨2, _⟩ => exact hq

/-- Half a turn of the lanes. -/
theorem rot64 {α : Type} {n : ℕ} (x : (⟨2, ![n, 128]⟩ : Shape).Idx → α) (h : (⟨2, ![n, 128]⟩ : Shape).Rotates 1 none) (i : Fin n) (l : Fin 128) :
    dynamicRotate 1 64#32 none x h (ix2 i l) = x (ix2 i ⟨(l.val + 64) % 128, Nat.mod_lt _ (by decide)⟩) := by
  unfold dynamicRotate
  refine congrArg x (funext fun b => ?_)
  match b with
  | ⟨0, _⟩ => rfl
  | ⟨1, _⟩ =>
    refine Fin.ext ?_
    show (l.val + 128 - 64 % 128) % 128 = (l.val + 64) % 128
    congr 1

/-- A row's sum. -/
theorem red_add {n m : ℕ} (src : FVec Ideal ⟨2, ![n, m]⟩ .f32) (h : (⟨2, ![n, m]⟩ : Shape).Reduces [1] ⟨1, ![n]⟩)
    (hφ : FKind.Formats .f32) (hacc : 0x00000000#32 = FKind.add.neutral .f32 hφ) (r : Fin n) :
    multiReduction .add [1] ⟨1, ![n]⟩ src 0x00000000#32 h hφ hacc (ix1 r) = ∑ k : Fin m, src (ix2 r k) := by
  rw [Ideal.multiReduction_add_single]
  refine Finset.sum_congr rfl fun k _ => congrArg src (funext fun b => ?_)
  match b with
  | ⟨0, _⟩ => rfl
  | ⟨1, _⟩ => rfl

/-- A row's maximum. -/
theorem red_max {n m : ℕ} (src : FVec Ideal ⟨2, ![n, m]⟩ .f32) (h : (⟨2, ![n, m]⟩ : Shape).Reduces [1] ⟨1, ![n]⟩)
    (hφ : FKind.Formats .f32) (hacc : 0xFF800000#32 = FKind.maximumf.neutral .f32 hφ) (r : Fin n) :
    multiReduction .maximumf [1] ⟨1, ![n]⟩ src 0xFF800000#32 h hφ hacc (ix1 r)
      = (Finset.univ : Finset (Fin m)).fold max ⊥ (fun k => src (ix2 r k)) := by
  rw [Ideal.multiReduction_maximumf_single]
  rw [show (FloatOps.ofBits (F := Ideal) .f32 0xFF800000#32 : EReal) = ⊥ from ofBits_neg_inf]
  refine Finset.fold_congr fun k _ => congrArg src (funext fun b => ?_)
  match b with
  | ⟨0, _⟩ => rfl
  | ⟨1, _⟩ => rfl

/-! ### The functions of a row both programs' results are -/

/-- One projected entry of a token: its codes against a channel's weights, scaled by the token's and the channel's scale. -/
def yRow (X g W : Fin 7168 → EReal) (ws : EReal) : EReal := (∑ k, codeRow X g k * W k) * scaleRow X g * ws

/-- A head rotated by its angles: lane `l` of the first half against lane `l + 64`, and the second half's against the first's. -/
def rotLane (y : Fin 128 → EReal) (A : Fin 64 → EReal) (l : Fin 128) : EReal :=
  if h : l.val < 64 then
    y l * Ideal.cos (A ⟨l.val, h⟩) - y ⟨l.val + 64, by omega⟩ * Ideal.sin (A ⟨l.val, h⟩)
  else
    y l * Ideal.cos (A ⟨l.val - 64, by omega⟩) + y ⟨l.val - 64, by omega⟩ * Ideal.sin (A ⟨l.val - 64, by omega⟩)

/-- A token's angle: its position times the frequency. -/
def angle (p : BitVec 32) (f : EReal) : EReal := ((p.toInt : ℝ) : EReal) * f

end Cert.Spec

end
-- ==== Proof.KCond.lean ====
/-
  The kernel's body, point by point: its branch conditions decided over the grid, its staging buffers, its scratch.
-/
module

public import proofs.«01_k».proof.Proof.Gen.KernelIdeal.Frame
public import proofs.«01_k».proof.Proof.Gen.KernelIdeal.Loops
public import Idealize.ShloMosaic.Lib.Claim

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 6) — by arithmetic of the point. -/
theorem hcond0_0 : ∀ t : Fin cfg0.N, cond0_0 (grid0.coords t) ↔ t.val % 6 = 0 :=
  (fun t => by
    have ht : t.val < 36 := Nat.lt_of_lt_of_eq t.isLt N_0
    have e0 : (grid0.coords t 0).val = t.val / 6 % 6 := Pipeline.Grid.coords_val t 0 (by decide) rfl
    have e1 : (grid0.coords t 1).val = t.val / 1 % 6 := Pipeline.Grid.coords_val t 1 (by decide) rfl
    simp only [cond0_0, k0_cond1, e0, e1]
    word_cmp
   : ∀ t : Fin grid0.N, cond0_0 (grid0.coords t) ↔ t.val % 6 = 0)

/-- The condition of the body's `scf.if` 1 (`k0_h2`), from the grid coordinates (the skeleton's scalar
    chain substituted). -/
abbrev cond0_1 (i : grid0.Coords) : Prop := k0_cond2 i = 1#1
/-- It holds at the points whose coordinates have i1 ≤ 1 — decided over the grid. -/
theorem hcond0_1 : ∀ t : Fin cfg0.N, cond0_1 (grid0.coords t) ↔ t.val % 6 ≤ 1 :=
  (by decide +kernel : ∀ t : Fin grid0.N, cond0_1 (grid0.coords t) ↔ t.val % 6 ≤ 1)

/-- The condition of the body's `scf.if` 2 (`k0_h3`), from the grid coordinates (the skeleton's scalar
    chain substituted). -/
abbrev cond0_2 (i : grid0.Coords) : Prop := k0_cond3 i = 1#1
/-- It holds at the points whose coordinates have 2 ≤ i1 and i1 ≤ 3 — decided over the grid. -/
theorem hcond0_2 : ∀ t : Fin cfg0.N, cond0_2 (grid0.coords t) ↔ (2 ≤ t.val % 6 ∧ t.val % 6 ≤ 3) :=
  (by decide +kernel : ∀ t : Fin grid0.N, cond0_2 (grid0.coords t) ↔ (2 ≤ t.val % 6 ∧ t.val % 6 ≤ 3))

/-- The condition of the body's `scf.if` 3 (`k0_h4`), from the grid coordinates (the skeleton's scalar
    chain substituted). -/
abbrev cond0_3 (i : grid0.Coords) : Prop := k0_cond4 i = 1#1
/-- It holds at the points whose coordinates have 4 ≤ i1 — decided over the grid. -/
theorem hcond0_3 : ∀ t : Fin cfg0.N, cond0_3 (grid0.coords t) ↔ 4 ≤ t.val % 6 :=
  (by decide +kernel : ∀ t : Fin grid0.N, cond0_3 (grid0.coords t) ↔ 4 ≤ t.val % 6)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x7168 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x7168 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x8x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x8x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x8x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x7168 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S512x128 .f32 := Memref.whole cc0_scratch0
abbrev scM0_1 : Memref sig .tc .vmem S512x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Val

end
-- ==== Proof.KBlocks.lean ====
/-
  What one block of the grid computes, as plain functions of the blocks it reads, and the quantising loop's trips read as such.
-/
module

public import proofs.«01_k».proof.Proof.KCond
public import proofs.«01_k».proof.Proof.Gen.KernelIdeal.Loops
public import Idealize.ShloMosaic.Lib.Claim
public import Idealize.ShloMosaic.Lib.VecWindow
public import Idealize.ShloMosaic.Lib.WritesUnit
public import Idealize.ShloMosaic.Lib.ValueIdxCore

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F] [Named F]

local notation "𝕄" => MT nD τ sig Unit (Elt F) ℕ (UR sig nD τ) ℕ

/-! ## The functions of a block -/

/-- Trip `k`'s rows lie in the block. -/
theorem xrows_inb (k : Fin 16) : ∀ a : Fin 2, (![32 * k.val, 0] : Fin 2 → ℕ) a + S32x7168.size a ≤ S512x7168.size a := by
  intro a; fin_cases a
  · show 32 * k.val + 32 ≤ 512; omega
  · show 0 + 7168 ≤ 7168; omega

/-- The 32 rows of trip `k`. -/
def xrows (x0 : Vec F S512x7168 .bf16) (k : Fin 16) : Vec F S32x7168 .bf16 :=
  VecWindow.window (s := S512x7168) x0 ![32 * k.val, 0] S32x7168.size (xrows_inb k)

/-- Trip `k`'s scales. -/
def tripScale (x0 : Vec F S512x7168 .bf16) (x2 : Vec F S1x7168 .f32) (k : Fin 16) : FVec F S32x1 .f32 :=
  k0_pay2 (k0_pay12 (xrows x0 k) x2) (k0_pay14 (k0_pay12 (xrows x0 k) x2) (k0_pay13 (xrows x0 k) x2))

/-- Trip `k`'s codes. -/
def tripCodes (x0 : Vec F S512x7168 .bf16) (x2 : Vec F S1x7168 .f32) (k : Fin 16) : FVec F S32x7168 .fp8e4m3 :=
  k0_pay3 (k0_pay11 (xrows x0 k) x2) (k0_pay12 (xrows x0 k) x2) (k0_pay14 (k0_pay12 (xrows x0 k) x2) (k0_pay13 (xrows x0 k) x2))

set_option maxHeartbeats 1000000 in
theorem trip_codes (𝒱 : Variants) (c : Dev nD) (bd : Option 𝒱.V) (i : grid0.Coords) (arg2 : Memref sig .tc .vmem S512x7168 .bf16) (harg2 : arg2.IsWhole) (arg3 : Memref sig .tc .vmem S512x1 .i32) (harg3 : arg3.IsWhole) (arg4 : Memref sig .tc .vmem S1x7168 .f32) (harg4 : arg4.IsWhole) (arg5 : Memref sig .tc .vmem S1x128 .f32) (harg5 : arg5.IsWhole) (arg6 : Memref sig .tc .vmem S1024x7168 .fp8e4m3) (harg6 : arg6.IsWhole) (arg7 : Memref sig .tc .vmem S1x1024 .f32) (harg7 : arg7.IsWhole) (arg8 : Memref sig .tc .vmem S512x8x128 .bf16) (harg8 : arg8.IsWhole) (arg9 : Memref sig .tc .vmem S512x8x128 .bf16) (harg9 : arg9.IsWhole) (arg10 : Memref sig .tc .vmem S512x8x128 .bf16) (harg10 : arg10.IsWhole) (arg11 : Memref sig .tc .vmem S512x7168 .fp8e4m3) (harg11 : arg11.IsWhole) (arg12 : Memref sig .tc .vmem S512x1 .f32) (harg12 : arg12.IsWhole) (arg13 : Memref sig .tc .vmem S512x128 .f32) (harg13 : arg13.IsWhole) (arg14 : Memref sig .tc .vmem S512x128 .f32) (harg14 : arg14.IsWhole) (k0_h1 : k0_cond1 i = 1#1) (X_arg2 : BufTy.Contents (Elt F) arg2.view.ty) (X_arg4 : BufTy.Contents (Elt F) arg4.view.ty) (k : Fin k0_t1_loop.trips) :
    ∃ inb, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg4 k).1
      = [⟨Rect.unit (k0_off1 k) ![32, 7168] inb, tripCodes (arg2.view.read (Elt F) X_arg2) (arg4.view.read (Elt F) X_arg4) ⟨k.val, Nat.lt_of_lt_of_le k.isLt k0_t1_abs.2.1⟩⟩] := by
  have e2 : ∀ inb, View.readAt (Elt F) arg2.view (Rect.unit (s := S512x7168) (k0_off1 k) S32x7168.size inb).toLoadRect X_arg2
      = xrows (arg2.view.read (Elt F) X_arg2) ⟨k.val, Nat.lt_of_lt_of_le k.isLt k0_t1_abs.2.1⟩ := fun inb =>
    View.readAt_unit arg2.view X_arg2 inb (k0_off1_eq k) _
  have e4 : ∀ inb, View.readAt (Elt F) arg4.view (Rect.unit (s := S1x7168) ![0, 0] S1x7168.size inb).toLoadRect X_arg4
      = arg4.view.read (Elt F) X_arg4 := fun inb => View.readAt_full arg4.view X_arg4 inb
  unfold tripCodes
  rw [← e2 (fun a => by rw [k0_off1_eq k]; exact xrows_inb ⟨k.val, Nat.lt_of_lt_of_le k.isLt k0_t1_abs.2.1⟩ a), ← e4 inb_S1x7168_S1x7168_0_0]
  refine ⟨?_, ?_⟩
  rotate_left
  · unfold trip_k0_t1
    rfl

set_option maxHeartbeats 1000000 in
theorem trip_scales (𝒱 : Variants) (c : Dev nD) (bd : Option 𝒱.V) (i : grid0.Coords) (arg2 : Memref sig .tc .vmem S512x7168 .bf16) (harg2 : arg2.IsWhole) (arg3 : Memref sig .tc .vmem S512x1 .i32) (harg3 : arg3.IsWhole) (arg4 : Memref sig .tc .vmem S1x7168 .f32) (harg4 : arg4.IsWhole) (arg5 : Memref sig .tc .vmem S1x128 .f32) (harg5 : arg5.IsWhole) (arg6 : Memref sig .tc .vmem S1024x7168 .fp8e4m3) (harg6 : arg6.IsWhole) (arg7 : Memref sig .tc .vmem S1x1024 .f32) (harg7 : arg7.IsWhole) (arg8 : Memref sig .tc .vmem S512x8x128 .bf16) (harg8 : arg8.IsWhole) (arg9 : Memref sig .tc .vmem S512x8x128 .bf16) (harg9 : arg9.IsWhole) (arg10 : Memref sig .tc .vmem S512x8x128 .bf16) (harg10 : arg10.IsWhole) (arg11 : Memref sig .tc .vmem S512x7168 .fp8e4m3) (harg11 : arg11.IsWhole) (arg12 : Memref sig .tc .vmem S512x1 .f32) (harg12 : arg12.IsWhole) (arg13 : Memref sig .tc .vmem S512x128 .f32) (harg13 : arg13.IsWhole) (arg14 : Memref sig .tc .vmem S512x128 .f32) (harg14 : arg14.IsWhole) (k0_h1 : k0_cond1 i = 1#1) (X_arg2 : BufTy.Contents (Elt F) arg2.view.ty) (X_arg4 : BufTy.Contents (Elt F) arg4.view.ty) (k : Fin k0_t1_loop.trips) :
    ∃ inb, (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg4 k).2.1
      = [⟨Rect.unit (k0_off2 k) ![32, 1] inb, tripScale (arg2.view.read (Elt F) X_arg2) (arg4.view.read (Elt F) X_arg4) ⟨k.val, Nat.lt_of_lt_of_le k.isLt k0_t1_abs.2.1⟩⟩] := by
  have e2 : ∀ inb, View.readAt (Elt F) arg2.view (Rect.unit (s := S512x7168) (k0_off1 k) S32x7168.size inb).toLoadRect X_arg2
      = xrows (arg2.view.read (Elt F) X_arg2) ⟨k.val, Nat.lt_of_lt_of_le k.isLt k0_t1_abs.2.1⟩ := fun inb =>
    View.readAt_unit arg2.view X_arg2 inb (k0_off1_eq k) _
  have e4 : ∀ inb, View.readAt (Elt F) arg4.view (Rect.unit (s := S1x7168) ![0, 0] S1x7168.size inb).toLoadRect X_arg4
      = arg4.view.read (Elt F) X_arg4 := fun inb => View.readAt_full arg4.view X_arg4 inb
  unfold tripScale
  rw [← e2 (fun a => by rw [k0_off1_eq k]; exact xrows_inb ⟨k.val, Nat.lt_of_lt_of_le k.isLt k0_t1_abs.2.1⟩ a), ← e4 inb_S1x7168_S1x7168_0_0]
  refine ⟨?_, ?_⟩
  rotate_left
  · unfold trip_k0_t1
    rfl

theorem trips_eq : k0_t1_loop.trips = 16 := by decide

/-- The block's codes: row `r` is row `r % 32` of trip `r / 32`. -/
def CODES (x0 : Vec F S512x7168 .bf16) (x2 : Vec F S1x7168 .f32) : Vec F S512x7168 .fp8e4m3 := fun j =>
  tripCodes x0 x2 ⟨(j (0 : Fin 2)).val / 32, by have : (j (0 : Fin 2)).val < 512 := (j (0 : Fin 2)).isLt; omega⟩
    (ix2 (n0 := 32) (n1 := 7168) ⟨(j (0 : Fin 2)).val % 32, Nat.mod_lt _ (by decide)⟩ (j (1 : Fin 2)))

/-- The block's scales, by the same rows. -/
def SCALE (x0 : Vec F S512x7168 .bf16) (x2 : Vec F S1x7168 .f32) : Vec F S512x1 .f32 := fun j =>
  tripScale x0 x2 ⟨(j (0 : Fin 2)).val / 32, by have : (j (0 : Fin 2)).val < 512 := (j (0 : Fin 2)).isLt; omega⟩
    (ix2 (n0 := 32) (n1 := 1) ⟨(j (0 : Fin 2)).val % 32, Nat.mod_lt _ (by decide)⟩ (j (1 : Fin 2)))

/-- After the first `k` trips the rows below `32 k` of the codes' buffer are the block's codes. -/
theorem pb_codes (𝒱 : Variants) (c : Dev nD) (bd : Option 𝒱.V) (i : grid0.Coords) (arg2 : Memref sig .tc .vmem S512x7168 .bf16) (harg2 : arg2.IsWhole) (arg3 : Memref sig .tc .vmem S512x1 .i32) (harg3 : arg3.IsWhole) (arg4 : Memref sig .tc .vmem S1x7168 .f32) (harg4 : arg4.IsWhole) (arg5 : Memref sig .tc .vmem S1x128 .f32) (harg5 : arg5.IsWhole) (arg6 : Memref sig .tc .vmem S1024x7168 .fp8e4m3) (harg6 : arg6.IsWhole) (arg7 : Memref sig .tc .vmem S1x1024 .f32) (harg7 : arg7.IsWhole) (arg8 : Memref sig .tc .vmem S512x8x128 .bf16) (harg8 : arg8.IsWhole) (arg9 : Memref sig .tc .vmem S512x8x128 .bf16) (harg9 : arg9.IsWhole) (arg10 : Memref sig .tc .vmem S512x8x128 .bf16) (harg10 : arg10.IsWhole) (arg11 : Memref sig .tc .vmem S512x7168 .fp8e4m3) (harg11 : arg11.IsWhole) (arg12 : Memref sig .tc .vmem S512x1 .f32) (harg12 : arg12.IsWhole) (arg13 : Memref sig .tc .vmem S512x128 .f32) (harg13 : arg13.IsWhole) (arg14 : Memref sig .tc .vmem S512x128 .f32) (harg14 : arg14.IsWhole) (k0_h1 : k0_cond1 i = 1#1) (X_arg2 : BufTy.Contents (Elt F) arg2.view.ty) (X_arg4 : BufTy.Contents (Elt F) arg4.view.ty) (G : BufTy.Contents (Elt F) arg11.view.ty) :
    ∀ k, k ≤ 16 → ∀ j : S512x7168.Idx, (j (0 : Fin 2)).val < 32 * k →
      arg11.view.read (Elt F) (arg11.view.writes (Elt F) G (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg4 k).1) j
        = CODES (arg2.view.read (Elt F) X_arg2) (arg4.view.read (Elt F) X_arg4) j := by
  intro k
  induction k with
  | zero => intro _ j hj; omega
  | succ k ih =>
    intro hk j hj
    have hkt : k < k0_t1_loop.trips := by rw [trips_eq]; omega
    obtain ⟨inb, hL⟩ := trip_codes (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg4 ⟨k, hkt⟩
    rw [show k + 1 = (⟨k, hkt⟩ : Fin k0_t1_loop.trips).val + 1 from rfl, pb_k0_t1_succ]
    dsimp only [tripL_k0_t1]
    rw [hL]
    simp only [List.cons_append, List.nil_append]
    by_cases h : 32 * k ≤ (j (0 : Fin 2)).val
    · have hd : (j (0 : Fin 2)).val / 32 = k := by omega
      rw [View.read_writes_cons_rows_of_mem (d := S512x7168.size) arg11.view G inb _ _ j
        (ix2 (n0 := 32) (n1 := 7168) ⟨(j (0 : Fin 2)).val % 32, Nat.mod_lt _ (by decide)⟩ (j (1 : Fin 2)))
        (k0_off1_eq ⟨k, hkt⟩) (by show (j (0 : Fin 2)).val = 32 * k + (j (0 : Fin 2)).val % 32; omega) rfl]
      unfold CODES
      congr 2
      exact hd.symm
    · rw [View.read_writes_cons_rows_of_not_mem (d := S512x7168.size) (W := 32) arg11.view G inb _ _ j (k0_off1_eq ⟨k, hkt⟩) rfl (Or.inl (by show (j (0 : Fin 2)).val < 32 * k; omega))]
      exact ih (by omega) j (by omega)

/-- After the first `k` trips the rows below `32 k` of the scales' buffer are the block's scales. -/
theorem pb_scales (𝒱 : Variants) (c : Dev nD) (bd : Option 𝒱.V) (i : grid0.Coords) (arg2 : Memref sig .tc .vmem S512x7168 .bf16) (harg2 : arg2.IsWhole) (arg3 : Memref sig .tc .vmem S512x1 .i32) (harg3 : arg3.IsWhole) (arg4 : Memref sig .tc .vmem S1x7168 .f32) (harg4 : arg4.IsWhole) (arg5 : Memref sig .tc .vmem S1x128 .f32) (harg5 : arg5.IsWhole) (arg6 : Memref sig .tc .vmem S1024x7168 .fp8e4m3) (harg6 : arg6.IsWhole) (arg7 : Memref sig .tc .vmem S1x1024 .f32) (harg7 : arg7.IsWhole) (arg8 : Memref sig .tc .vmem S512x8x128 .bf16) (harg8 : arg8.IsWhole) (arg9 : Memref sig .tc .vmem S512x8x128 .bf16) (harg9 : arg9.IsWhole) (arg10 : Memref sig .tc .vmem S512x8x128 .bf16) (harg10 : arg10.IsWhole) (arg11 : Memref sig .tc .vmem S512x7168 .fp8e4m3) (harg11 : arg11.IsWhole) (arg12 : Memref sig .tc .vmem S512x1 .f32) (harg12 : arg12.IsWhole) (arg13 : Memref sig .tc .vmem S512x128 .f32) (harg13 : arg13.IsWhole) (arg14 : Memref sig .tc .vmem S512x128 .f32) (harg14 : arg14.IsWhole) (k0_h1 : k0_cond1 i = 1#1) (X_arg2 : BufTy.Contents (Elt F) arg2.view.ty) (X_arg4 : BufTy.Contents (Elt F) arg4.view.ty) (G : BufTy.Contents (Elt F) arg12.view.ty) :
    ∀ k, k ≤ 16 → ∀ j : S512x1.Idx, (j (0 : Fin 2)).val < 32 * k →
      arg12.view.read (Elt F) (arg12.view.writes (Elt F) G (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg4 k).2) j
        = SCALE (arg2.view.read (Elt F) X_arg2) (arg4.view.read (Elt F) X_arg4) j := by
  intro k
  induction k with
  | zero => intro _ j hj; omega
  | succ k ih =>
    intro hk j hj
    have hkt : k < k0_t1_loop.trips := by rw [trips_eq]; omega
    obtain ⟨inb, hL⟩ := trip_scales (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg4 ⟨k, hkt⟩
    rw [show k + 1 = (⟨k, hkt⟩ : Fin k0_t1_loop.trips).val + 1 from rfl, pb_k0_t1_succ]
    dsimp only [tripL_k0_t1]
    rw [hL]
    simp only [List.cons_append, List.nil_append]
    by_cases h : 32 * k ≤ (j (0 : Fin 2)).val
    · have hd : (j (0 : Fin 2)).val / 32 = k := by omega
      rw [View.read_writes_cons_rows_of_mem (d := S512x1.size) arg12.view G inb _ _ j
        (ix2 (n0 := 32) (n1 := 1) ⟨(j (0 : Fin 2)).val % 32, Nat.mod_lt _ (by decide)⟩ (j (1 : Fin 2)))
        (k0_off2_eq ⟨k, hkt⟩) (by show (j (0 : Fin 2)).val = 32 * k + (j (0 : Fin 2)).val % 32; omega) rfl]
      unfold SCALE
      congr 2
      exact hd.symm
    · rw [View.read_writes_cons_rows_of_not_mem (d := S512x1.size) (W := 32) arg12.view G inb _ _ j (k0_off2_eq ⟨k, hkt⟩) rfl (Or.inl (by show (j (0 : Fin 2)).val < 32 * k; omega))]
      exact ih (by omega) j (by omega)

/-- The codes' buffer after the loop. -/
theorem read_codes (𝒱 : Variants) (c : Dev nD) (bd : Option 𝒱.V) (i : grid0.Coords) (arg2 : Memref sig .tc .vmem S512x7168 .bf16) (harg2 : arg2.IsWhole) (arg3 : Memref sig .tc .vmem S512x1 .i32) (harg3 : arg3.IsWhole) (arg4 : Memref sig .tc .vmem S1x7168 .f32) (harg4 : arg4.IsWhole) (arg5 : Memref sig .tc .vmem S1x128 .f32) (harg5 : arg5.IsWhole) (arg6 : Memref sig .tc .vmem S1024x7168 .fp8e4m3) (harg6 : arg6.IsWhole) (arg7 : Memref sig .tc .vmem S1x1024 .f32) (harg7 : arg7.IsWhole) (arg8 : Memref sig .tc .vmem S512x8x128 .bf16) (harg8 : arg8.IsWhole) (arg9 : Memref sig .tc .vmem S512x8x128 .bf16) (harg9 : arg9.IsWhole) (arg10 : Memref sig .tc .vmem S512x8x128 .bf16) (harg10 : arg10.IsWhole) (arg11 : Memref sig .tc .vmem S512x7168 .fp8e4m3) (harg11 : arg11.IsWhole) (arg12 : Memref sig .tc .vmem S512x1 .f32) (harg12 : arg12.IsWhole) (arg13 : Memref sig .tc .vmem S512x128 .f32) (harg13 : arg13.IsWhole) (arg14 : Memref sig .tc .vmem S512x128 .f32) (harg14 : arg14.IsWhole) (k0_h1 : k0_cond1 i = 1#1) (X_arg2 : BufTy.Contents (Elt F) arg2.view.ty) (X_arg4 : BufTy.Contents (Elt F) arg4.view.ty) (G : BufTy.Contents (Elt F) arg11.view.ty) :
    arg11.view.read (Elt F) (arg11.view.writes (Elt F) G (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg4 (Scf.trips k0_t1_loop.lb k0_t1_loop.ub k0_t1_loop.st)).1)
      = CODES (arg2.view.read (Elt F) X_arg2) (arg4.view.read (Elt F) X_arg4) := by
  have e : Scf.trips k0_t1_loop.lb k0_t1_loop.ub k0_t1_loop.st = 16 := trips_eq
  rw [e]
  funext j
  exact pb_codes (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg4 G 16 le_rfl j (j (0 : Fin 2)).isLt

/-- The scales' buffer after the loop. -/
theorem read_scales (𝒱 : Variants) (c : Dev nD) (bd : Option 𝒱.V) (i : grid0.Coords) (arg2 : Memref sig .tc .vmem S512x7168 .bf16) (harg2 : arg2.IsWhole) (arg3 : Memref sig .tc .vmem S512x1 .i32) (harg3 : arg3.IsWhole) (arg4 : Memref sig .tc .vmem S1x7168 .f32) (harg4 : arg4.IsWhole) (arg5 : Memref sig .tc .vmem S1x128 .f32) (harg5 : arg5.IsWhole) (arg6 : Memref sig .tc .vmem S1024x7168 .fp8e4m3) (harg6 : arg6.IsWhole) (arg7 : Memref sig .tc .vmem S1x1024 .f32) (harg7 : arg7.IsWhole) (arg8 : Memref sig .tc .vmem S512x8x128 .bf16) (harg8 : arg8.IsWhole) (arg9 : Memref sig .tc .vmem S512x8x128 .bf16) (harg9 : arg9.IsWhole) (arg10 : Memref sig .tc .vmem S512x8x128 .bf16) (harg10 : arg10.IsWhole) (arg11 : Memref sig .tc .vmem S512x7168 .fp8e4m3) (harg11 : arg11.IsWhole) (arg12 : Memref sig .tc .vmem S512x1 .f32) (harg12 : arg12.IsWhole) (arg13 : Memref sig .tc .vmem S512x128 .f32) (harg13 : arg13.IsWhole) (arg14 : Memref sig .tc .vmem S512x128 .f32) (harg14 : arg14.IsWhole) (k0_h1 : k0_cond1 i = 1#1) (X_arg2 : BufTy.Contents (Elt F) arg2.view.ty) (X_arg4 : BufTy.Contents (Elt F) arg4.view.ty) (G : BufTy.Contents (Elt F) arg12.view.ty) :
    arg12.view.read (Elt F) (arg12.view.writes (Elt F) G (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg4 (Scf.trips k0_t1_loop.lb k0_t1_loop.ub k0_t1_loop.st)).2)
      = SCALE (arg2.view.read (Elt F) X_arg2) (arg4.view.read (Elt F) X_arg4) := by
  have e : Scf.trips k0_t1_loop.lb k0_t1_loop.ub k0_t1_loop.st = 16 := trips_eq
  rw [e]
  funext j
  exact pb_scales (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 X_arg2 X_arg4 G 16 le_rfl j (j (0 : Fin 2)).isLt

/-! ## The other functions of a block -/

/-- The block's cosines. -/
def COS (x1 : Vec F S512x1 .i32) (x3 : Vec F S1x128 .f32) : Vec F S512x128 .f32 := k0_pay5 x1 x3
/-- The block's sines, negated on the first half of the lanes. -/
def SIN (x1 : Vec F S512x1 .i32) (x3 : Vec F S1x128 .f32) : Vec F S512x128 .f32 := k0_pay6 x1 x3

/-- A block of rotated query heads, of its codes, weights, scales, weight scales, cosines and sines. -/
def QF (codes : Vec F S512x7168 .fp8e4m3) (w : Vec F S1024x7168 .fp8e4m3) (sc : Vec F S512x1 .f32) (ws : Vec F S1x1024 .f32) (cs sn : Vec F S512x128 .f32) : Vec F S512x8x128 .bf16 :=
  k0_pay8 (k0_pay15 (k0_pay7 codes w sc ws) cs sn) (k0_pay16 (k0_pay7 codes w sc ws) cs sn) (k0_pay17 (k0_pay7 codes w sc ws) cs sn) (k0_pay18 (k0_pay7 codes w sc ws) cs sn) (k0_pay19 (k0_pay7 codes w sc ws) cs sn) (k0_pay20 (k0_pay7 codes w sc ws) cs sn) (k0_pay21 (k0_pay7 codes w sc ws) cs sn) (k0_pay22 (k0_pay7 codes w sc ws) cs sn)

/-- A block of rotated key heads. -/
def KF (codes : Vec F S512x7168 .fp8e4m3) (w : Vec F S1024x7168 .fp8e4m3) (sc : Vec F S512x1 .f32) (ws : Vec F S1x1024 .f32) (cs sn : Vec F S512x128 .f32) : Vec F S512x8x128 .bf16 :=
  k0_pay9 (k0_pay23 (k0_pay7 codes w sc ws) cs sn) (k0_pay24 (k0_pay7 codes w sc ws) cs sn) (k0_pay25 (k0_pay7 codes w sc ws) cs sn) (k0_pay26 (k0_pay7 codes w sc ws) cs sn) (k0_pay27 (k0_pay7 codes w sc ws) cs sn) (k0_pay28 (k0_pay7 codes w sc ws) cs sn) (k0_pay29 (k0_pay7 codes w sc ws) cs sn) (k0_pay30 (k0_pay7 codes w sc ws) cs sn)

/-- A block of value heads. -/
def VF (codes : Vec F S512x7168 .fp8e4m3) (w : Vec F S1024x7168 .fp8e4m3) (sc : Vec F S512x1 .f32) (ws : Vec F S1x1024 .f32) : Vec F S512x8x128 .bf16 :=
  k0_pay10 codes w sc ws

end Cert.KernelIdeal.Val
-- ==== Proof.KVal.lean ====
/-
  The kernel's block functions at the ideal values, read at an index.
-/
module

public import proofs.«01_k».proof.Proof.Idx
public import proofs.«01_k».proof.Proof.KBlocks

@[expose] public section

set_option maxRecDepth 16384

noncomputable section

namespace Cert.KernelIdeal.Val

open Idealize.ShloMosaic Idealize.ShloMosaic.TcCoe
open Cert.KernelIdeal Cert.KernelIdeal.Gen Cert.Spec
open Idealize.ShloMosaic.ValueIdx

theorem inv_d : (Named.named (F := Ideal) κ "inv_d" 0x39124925#32 : Ideal .f32) = ((1 / 7168 : ℝ) : EReal) :=
  IdealRules.named_const.ideal_named_scalar _ _ _ _ rfl

/-! ### Quantising a row -/

set_option backward.isDefEq.respectTransparency false in
theorem pay11_apply (x : FVec Ideal S32x7168 .bf16) (g : FVec Ideal S1x7168 .f32) (r : Fin 32) (k : Fin 7168) :
    k0_pay11 (F := Ideal) x g (ix2 r k) = hRow (fun k => x (ix2 r k)) (fun k => g (ix2 0 k)) k := by
  simp only [k0_pay11, shapeCast_self, mulf_apply, bc_col, bc_row, extf_apply]
  unfold hRow
  rw [show ∀ v : FVec Ideal S32x1 .f32, rsqrt v (ix2 r 0) = Ideal.rsqrt (v (ix2 r 0)) from fun _ => rfl]
  simp only [addf_apply, mulf_apply, broadcast_apply, sc_col, inv_d]
  rw [red_add]
  simp only [mulf_apply, extf_apply]
  rfl

set_option backward.isDefEq.respectTransparency false in
theorem pay12_apply (x : FVec Ideal S32x7168 .bf16) (g : FVec Ideal S1x7168 .f32) (r : Fin 32) :
    k0_pay12 (F := Ideal) x g (ix2 r 0) = aRow (fun k => x (ix2 r k)) (fun k => g (ix2 0 k)) := by
  simp only [k0_pay12, mulf_apply, broadcast_apply, sc_col]
  rw [red_max]
  have e : ∀ k, absf (k0_pay11 (F := Ideal) x g) (ix2 r k) = max (hRow (fun k => x (ix2 r k)) (fun k => g (ix2 0 k)) k) (-(hRow (fun k => x (ix2 r k)) (fun k => g (ix2 0 k)) k)) :=
    fun k => by rw [← pay11_apply]; rfl
  simp only [e]
  rfl

/-- One step of the search, vectorwise. -/
def vstep (v : FVec Ideal S32x1 .f32) (b : BitVec 32) (n : IVec S32x1 32) : IVec S32x1 32 :=
  select (cmpf .olt v (bitcastToFloat .f32 (shli (addi n (broadcast S32x1 b)) (broadcast S32x1 23#32)))) n (addi n (broadcast S32x1 b))

theorem vstep_apply (v : FVec Ideal S32x1 .f32) (b : BitVec 32) (n : IVec S32x1 32) (i : S32x1.Idx) :
    vstep v b n i = kstep (v i) b (n i) := rfl

theorem pay13_eq (x : FVec Ideal S32x7168 .bf16) (g : FVec Ideal S1x7168 .f32) :
    k0_pay13 (F := Ideal) x g = vstep (k0_pay12 (F := Ideal) x g) 64#32 (vstep (k0_pay12 (F := Ideal) x g) 128#32 (broadcast S32x1 0#32)) := rfl

theorem pay14_eq (v : FVec Ideal S32x1 .f32) (n : IVec S32x1 32) :
    k0_pay14 (F := Ideal) v n = vstep v 2#32 (vstep v 4#32 (vstep v 8#32 (vstep v 16#32 (vstep v 32#32 n)))) := rfl

theorem pay1_eq (v : FVec Ideal S32x1 .f32) (n : IVec S32x1 32) (i : S32x1.Idx) :
    k0_pay1 (F := Ideal) v n i = Scalar.select (IntOp.cmpi .eq (vstep v 1#32 n i) 0#32) 0#32 (IntOp.subi (vstep v 1#32 n i) 126#32) := rfl

theorem bits_apply (x : FVec Ideal S32x7168 .bf16) (g : FVec Ideal S1x7168 .f32) (i : S32x1.Idx) :
    k0_pay1 (F := Ideal) (k0_pay12 (F := Ideal) x g) (k0_pay14 (F := Ideal) (k0_pay12 (F := Ideal) x g) (k0_pay13 (F := Ideal) x g)) i = kexp (k0_pay12 (F := Ideal) x g i) := by
  rw [pay1_eq, pay14_eq, pay13_eq]
  simp only [vstep_apply, broadcast_apply]
  rfl

theorem tripScale_apply (x0 : FVec Ideal S512x7168 .bf16) (g : FVec Ideal S1x7168 .f32) (k : Fin 16) (r : Fin 32) :
    tripScale (F := Ideal) x0 g k (ix2 r 0) = kscale (aRow (fun j => xrows (F := Ideal) x0 k (ix2 r j)) (fun j => g (ix2 0 j))) := by
  unfold tripScale
  rw [← pay12_apply]
  unfold kscale
  rw [← bits_apply]
  rfl

theorem tripCodes_apply (x0 : FVec Ideal S512x7168 .bf16) (g : FVec Ideal S1x7168 .f32) (k : Fin 16) (r : Fin 32) (j : Fin 7168) :
    tripCodes (F := Ideal) x0 g k (ix2 r j)
      = min (Ideal.ofBits .f32 0x43E00000#32) (max (Ideal.ofBits .f32 0xC3E00000#32)
          (hRow (fun j => xrows (F := Ideal) x0 k (ix2 r j)) (fun j => g (ix2 0 j)) j
            * kinv (aRow (fun j => xrows (F := Ideal) x0 k (ix2 r j)) (fun j => g (ix2 0 j))))) := by
  unfold tripCodes
  rw [← pay12_apply, ← pay11_apply]
  unfold kinv
  rw [← bits_apply]
  generalize k0_pay11 (F := Ideal) (xrows x0 k) g = h
  generalize k0_pay12 (F := Ideal) (xrows x0 k) g = a
  generalize k0_pay14 (F := Ideal) a _ = e
  simp only [k0_pay3, truncf_apply, minimumf_apply, maximumf_apply, mulf_apply, broadcast_apply, bc_col]
  rfl

theorem xrows_apply (x0 : FVec Ideal S512x7168 .bf16) (k : Fin 16) (r : Fin 32) (j : Fin 7168) (q : Fin 512) (hq : q.val = 32 * k.val + r.val) :
    xrows (F := Ideal) x0 k (ix2 r j) = x0 (ix2 q j) := by
  unfold xrows VecWindow.window
  refine congrArg x0 (funext fun b => Fin.ext ?_)
  match b with
  | ⟨0, _⟩ => show 32 * k.val + 1 * r.val = q.val; omega
  | ⟨1, _⟩ => show 0 + 1 * j.val = j.val; omega

/-- With finite gains the block's scales and codes are the rows' own. -/
theorem SCALE_apply (x0 : FVec Ideal S512x7168 .bf16) (g : FVec Ideal S1x7168 .f32)
    (hg : ∀ j, max (g (ix2 0 j)) (-(g (ix2 0 j))) ≤ fmax) (i : Fin 512) :
    SCALE (F := Ideal) x0 g (ix2 i 0) = scaleRow (fun j => x0 (ix2 i j)) (fun j => g (ix2 0 j)) := by
  unfold SCALE
  refine (tripScale_apply x0 g _ _).trans ?_
  rw [show (fun j => xrows (F := Ideal) x0 ⟨i.val / 32, by omega⟩ (ix2 ⟨i.val % 32, Nat.mod_lt _ (by decide)⟩ j)) = fun j => x0 (ix2 i j) from
    funext fun j => xrows_apply x0 _ _ j i (by show i.val = 32 * (i.val / 32) + i.val % 32; omega)]
  exact (row_scales _ _ hg).1

theorem CODES_apply (x0 : FVec Ideal S512x7168 .bf16) (g : FVec Ideal S1x7168 .f32)
    (hg : ∀ j, max (g (ix2 0 j)) (-(g (ix2 0 j))) ≤ fmax) (i : Fin 512) (j : Fin 7168) :
    CODES (F := Ideal) x0 g (ix2 i j) = codeRow (fun j => x0 (ix2 i j)) (fun j => g (ix2 0 j)) j := by
  unfold CODES
  refine (tripCodes_apply x0 g _ _ _).trans ?_
  rw [show (fun j => xrows (F := Ideal) x0 ⟨i.val / 32, by omega⟩ (ix2 ⟨i.val % 32, Nat.mod_lt _ (by decide)⟩ j)) = fun j => x0 (ix2 i j) from
    funext fun j => xrows_apply x0 _ _ j i (by show i.val = 32 * (i.val / 32) + i.val % 32; omega)]
  unfold codeRow
  rw [(row_scales _ _ hg).2]

/-! ### The projection, the rotation and the heads -/

theorem lhsIdx_eq (i : Fin 512) (o : Fin 1024) (k : Fin 7168) :
    dot_S512x7168_S1024x7168_S512x1024_1_1_0_0_n_n.lhsIdx (ix2 i o)
      ((contrEquiv1 dot_S512x7168_S1024x7168_S512x1024_1_1_0_0_n_n 7168 rfl rfl).symm k) = ix2 i k := by
  funext b
  match b with
  | ⟨0, _⟩ => rfl
  | ⟨1, _⟩ => exact Fin.ext (contrEquiv1_symm_val dot_S512x7168_S1024x7168_S512x1024_1_1_0_0_n_n 7168 rfl rfl k)

theorem rhsIdx_eq (i : Fin 512) (o : Fin 1024) (k : Fin 7168) :
    dot_S512x7168_S1024x7168_S512x1024_1_1_0_0_n_n.rhsIdx (ix2 i o)
      ((contrEquiv1 dot_S512x7168_S1024x7168_S512x1024_1_1_0_0_n_n 7168 rfl rfl).symm k) = ix2 o k := by
  funext b
  match b with
  | ⟨0, _⟩ => rfl
  | ⟨1, _⟩ => exact Fin.ext (contrEquiv1_symm_val dot_S512x7168_S1024x7168_S512x1024_1_1_0_0_n_n 7168 rfl rfl k)

/-- One projected entry: the product of the codes and the weights, scaled by the token's and the channel's scale. -/
theorem pay7_apply (codes : FVec Ideal S512x7168 .fp8e4m3) (w : FVec Ideal S1024x7168 .fp8e4m3) (sc : FVec Ideal S512x1 .f32)
    (ws : FVec Ideal S1x1024 .f32) (i : Fin 512) (o : Fin 1024) :
    k0_pay7 (F := Ideal) codes w sc ws (ix2 i o)
      = (∑ k : Fin 7168, codes (ix2 i k) * w (ix2 o k)) * sc (ix2 i 0) * ws (ix2 0 o) := by
  simp only [k0_pay7, mulf_apply, bc_col, bc_row, shapeCast_self]
  refine congrArg (fun z : EReal => z * sc (ix2 i 0) * ws (ix2 0 o)) ?_
  refine (Ideal.matmul_constant_zero_apply dot_S512x7168_S1024x7168_S512x1024_1_1_0_0_n_n none codes w (ix2 i o)).trans ?_
  rw [← Equiv.sum_comp (contrEquiv1 dot_S512x7168_S1024x7168_S512x1024_1_1_0_0_n_n 7168 rfl rfl).symm]
  exact Finset.sum_congr rfl fun k _ => by rw [lhsIdx_eq, rhsIdx_eq]

/-- The head at channel offset `o`, rotated. -/
def headAt (o : ℕ) (hs : S512x1024.Slices ![0, o] S512x128) (y : FVec Ideal S512x1024 .f32) (cs sn : FVec Ideal S512x128 .f32) : FVec Ideal S512x128 .f32 :=
  addf (mulf (extractStridedSlice S512x128 ![0, o] y hs) cs)
    (mulf (dynamicRotate 1 64#32 none (extractStridedSlice S512x128 ![0, o] y hs) rotates_S512x128_d1) sn)

theorem headAt_apply (o : ℕ) (hs) (y : FVec Ideal S512x1024 .f32) (cs sn : FVec Ideal S512x128 .f32) (i : Fin 512) (l : Fin 128)
    (q q' : Fin 1024) (hq : q.val = o + l.val) (hq' : q'.val = o + (l.val + 64) % 128) :
    headAt o hs y cs sn (ix2 i l) = y (ix2 i q) * cs (ix2 i l) + y (ix2 i q') * sn (ix2 i l) := by
  unfold headAt
  rw [addf_apply, mulf_apply, mulf_apply, rot64, sl2 o y hs i l q hq, sl2 o y hs i _ q' hq']

theorem slices_h (h : Fin 8) : S512x1024.Slices ![0, 128 * h.val] S512x128 := by
  refine ⟨rfl, fun a => ?_⟩
  match a with
  | ⟨0, _⟩ => show 0 + 512 ≤ 512; omega
  | ⟨1, _⟩ => show 128 * h.val + 128 ≤ 1024; omega

/-- The eight heads of a projected block, stacked. -/
theorem QF_apply (codes : FVec Ideal S512x7168 .fp8e4m3) (w : FVec Ideal S1024x7168 .fp8e4m3) (sc : FVec Ideal S512x1 .f32)
    (ws : FVec Ideal S1x1024 .f32) (cs sn : FVec Ideal S512x128 .f32) (i : Fin 512) (h : Fin 8) (l : Fin 128)
    (q q' : Fin 1024) (hq : q.val = 128 * h.val + l.val) (hq' : q'.val = 128 * h.val + (l.val + 64) % 128) :
    QF (F := Ideal) codes w sc ws cs sn (ix3 i h l)
      = k0_pay7 (F := Ideal) codes w sc ws (ix2 i q) * cs (ix2 i l) + k0_pay7 (F := Ideal) codes w sc ws (ix2 i q') * sn (ix2 i l) := by
  unfold QF
  generalize k0_pay7 (F := Ideal) codes w sc ws = y
  have e : concatenate S512x8x128 1 (List.ofFn fun n : Fin 8 => (⟨S512x1x128, shapeCast S512x1x128 (headAt (128 * n.val) (slices_h n) y cs sn) shapeCasts_S512x128_S512x1x128⟩ : (s : Shape) × (s.Idx → EReal)))
      concatenates_S512x1x128_S512x1x128_S512x1x128_S512x1x128_S512x1x128_S512x1x128_S512x1x128_S512x1x128_S512x8x128_d1 (ix3 i h l)
      = headAt (128 * h.val) (slices_h h) y cs sn (ix2 i l) := by
    refine (concatenate_ofFn_unit_apply (1 : Fin S512x8x128.rank)
      (fun n : Fin 8 => shapeCast S512x1x128 (headAt (128 * n.val) (slices_h n) y cs sn) shapeCasts_S512x128_S512x1x128) _ rfl rfl (ix3 i h l) h rfl (ix3 i 0 l) ?_).trans ?_
    · intro b hb
      match b with
      | ⟨0, _⟩ => rfl
      | ⟨1, _⟩ => exact absurd rfl hb
      | ⟨2, _⟩ => rfl
    · exact sc_mid _ _ i 0 l
  rw [← headAt_apply (128 * h.val) (slices_h h) y cs sn i l q q' hq hq', ← e]
  rfl

theorem KF_eq (codes : FVec Ideal S512x7168 .fp8e4m3) (w : FVec Ideal S1024x7168 .fp8e4m3) (sc : FVec Ideal S512x1 .f32)
    (ws : FVec Ideal S1x1024 .f32) (cs sn : FVec Ideal S512x128 .f32) :
    KF (F := Ideal) codes w sc ws cs sn = QF (F := Ideal) codes w sc ws cs sn := rfl

theorem VF_apply (codes : FVec Ideal S512x7168 .fp8e4m3) (w : FVec Ideal S1024x7168 .fp8e4m3) (sc : FVec Ideal S512x1 .f32)
    (ws : FVec Ideal S1x1024 .f32) (i : Fin 512) (h : Fin 8) (l : Fin 128) (q : Fin 1024) (hq : q.val = 128 * h.val + l.val) :
    VF (F := Ideal) codes w sc ws (ix3 i h l) = k0_pay7 (F := Ideal) codes w sc ws (ix2 i q) := by
  unfold VF
  simp only [k0_pay10, truncf_apply]
  exact sc_heads _ _ rfl i h l q (by omega)

/-! ### Cosines and sines -/

theorem pay4_apply (p : IVec S512x1 32) (f : FVec Ideal S1x128 .f32) (i : Fin 512) (l : Fin 128) :
    k0_pay4 (F := Ideal) p f (ix2 i l) = (((p (ix2 i 0)).toInt : ℝ) : EReal) * f (ix2 0 l) := by
  simp only [k0_pay4, mulf_apply, bc_col, bc_row, shapeCast_self, sitofp_apply]
  rfl

theorem COS_apply (p : IVec S512x1 32) (f : FVec Ideal S1x128 .f32) (i : Fin 512) (l : Fin 128) :
    COS (F := Ideal) p f (ix2 i l) = Ideal.cos ((((p (ix2 i 0)).toInt : ℝ) : EReal) * f (ix2 0 l)) := by
  rw [← pay4_apply]
  simp only [COS, k0_pay5, shapeCast_self]
  rfl

theorem lanes_lt : ∀ l : Fin 128, IntOp.cmpi .slt (BitVec.ofNat 32 l.val) 64#32 = if l.val < 64 then 1#1 else 0#1 := by decide +kernel

theorem SIN_apply (p : IVec S512x1 32) (f : FVec Ideal S1x128 .f32) (i : Fin 512) (l : Fin 128) :
    SIN (F := Ideal) p f (ix2 i l)
      = if l.val < 64 then 0 - Ideal.sin ((((p (ix2 i 0)).toInt : ℝ) : EReal) * f (ix2 0 l)) else Ideal.sin ((((p (ix2 i 0)).toInt : ℝ) : EReal) * f (ix2 0 l)) := by
  rw [← pay4_apply]
  simp only [SIN, k0_pay6, shapeCast_self, select_apply, subf_apply, broadcast_apply]
  rw [show cmpi .slt (iota .tc S512x128 32 [1] iota_S512x128_d1_w32) (broadcast S512x128 64#32) (ix2 i l) = if l.val < 64 then 1#1 else 0#1 by
    show IntOp.cmpi .slt (iota .tc S512x128 32 [1] iota_S512x128_d1_w32 (ix2 i l)) 64#32 = _
    rw [iota_single_apply]; exact lanes_lt l]
  by_cases h : l.val < 64
  · rw [if_pos h, if_pos h, select_one, ← Ideal.ofBits_zero_f32]; rfl
  · rw [if_neg h, if_neg h, select_zero]; rfl

end Cert.KernelIdeal.Val

end
-- ==== Proof.KData.lean ====
/-
  What every staging buffer of the kernel holds after every point of the grid.
-/
module

public import proofs.«01_k».proof.Proof.KBlocks
public import Idealize.ShloMosaic.Lib.Pipeline.TableIdle
public import proofs.«01_k».proof.Proof.Gen.KernelIdeal.Loops
public import Idealize.ShloMosaic.Lib.Claim

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each block holds -/

/-- Point `n` of the grid. -/
def pt (n : ℕ) : Fin cfg0.N := ⟨n % 36, lt_of_lt_of_eq (Nat.mod_lt _ (by decide)) N_0.symm⟩

theorem lt36 (t : Fin cfg0.N) : t.val < 36 := lt_of_lt_of_eq t.isLt N_0

theorem pt_val (t : Fin cfg0.N) : pt t.val = t := Fin.ext (Nat.mod_eq_of_lt (lt36 t))

/-- The codes of the row of blocks point `n` is in. -/
def codesAt (c : Dev nD) (n : ℕ) : Vec F S512x7168 .fp8e4m3 := CODES (iblk m c 0 (pt (6 * (n / 6)))) (iblk m c 2 (pt (6 * (n / 6))))
/-- Its scales. -/
def scaleAt (c : Dev nD) (n : ℕ) : Vec F S512x1 .f32 := SCALE (iblk m c 0 (pt (6 * (n / 6)))) (iblk m c 2 (pt (6 * (n / 6))))
/-- Its cosines. -/
def cosAt (c : Dev nD) (n : ℕ) : Vec F S512x128 .f32 := COS (iblk m c 1 (pt (6 * (n / 6)))) (iblk m c 3 (pt (6 * (n / 6))))
/-- Its sines. -/
def sinAt (c : Dev nD) (n : ℕ) : Vec F S512x128 .f32 := SIN (iblk m c 1 (pt (6 * (n / 6)))) (iblk m c 3 (pt (6 * (n / 6))))

/-- The last point up to `n`, in its row of blocks, that stores a query block. -/
def qpt (n : ℕ) : ℕ := 6 * (n / 6) + min (n % 6) 1
/-- The same of a key block: the third point of the row when there is none yet. -/
def kpt (n : ℕ) : ℕ := 6 * (n / 6) + 2 + min (n % 6 - 2) 1
/-- The same of a value block. -/
def vpt (n : ℕ) : ℕ := 6 * (n / 6) + 4 + min (n % 6 - 4) 1

def qAt (c : Dev nD) (n : ℕ) : Vec F S512x8x128 .bf16 :=
  QF (codesAt m c n) (iblk m c 4 (pt (qpt n))) (scaleAt m c n) (iblk m c 5 (pt (qpt n))) (cosAt m c n) (sinAt m c n)
def kAt (c : Dev nD) (n : ℕ) : Vec F S512x8x128 .bf16 :=
  KF (codesAt m c n) (iblk m c 4 (pt (kpt n))) (scaleAt m c n) (iblk m c 5 (pt (kpt n))) (cosAt m c n) (sinAt m c n)
def vAt (c : Dev nD) (n : ℕ) : Vec F S512x8x128 .bf16 :=
  VF (codesAt m c n) (iblk m c 4 (pt (vpt n))) (scaleAt m c n) (iblk m c 5 (pt (vpt n)))

theorem codesAt_congr (c : Dev nD) {n n' : ℕ} (h : n / 6 = n' / 6) : codesAt m c n = codesAt m c n' := by unfold codesAt; rw [h]
theorem scaleAt_congr (c : Dev nD) {n n' : ℕ} (h : n / 6 = n' / 6) : scaleAt m c n = scaleAt m c n' := by unfold scaleAt; rw [h]
theorem cosAt_congr (c : Dev nD) {n n' : ℕ} (h : n / 6 = n' / 6) : cosAt m c n = cosAt m c n' := by unfold cosAt; rw [h]
theorem sinAt_congr (c : Dev nD) {n n' : ℕ} (h : n / 6 = n' / 6) : sinAt m c n = sinAt m c n' := by unfold sinAt; rw [h]
theorem qAt_congr (c : Dev nD) {n n' : ℕ} (h : n / 6 = n' / 6) (hq : qpt n = qpt n') : qAt m c n = qAt m c n' := by
  unfold qAt; rw [codesAt_congr m c h, scaleAt_congr m c h, cosAt_congr m c h, sinAt_congr m c h, hq]
theorem kAt_congr (c : Dev nD) {n n' : ℕ} (h : n / 6 = n' / 6) (hq : kpt n = kpt n') : kAt m c n = kAt m c n' := by
  unfold kAt; rw [codesAt_congr m c h, scaleAt_congr m c h, cosAt_congr m c h, sinAt_congr m c h, hq]

/-! ## The pipeline's proof data -/

/-- What the scratch holds before position `n`: the row's tables inside a row of blocks, anything at a row's start. -/
def Phi (c : Dev nD) (n : ℕ) : sProp 𝕄 :=
  if n % 6 = 0 then Pipeline.ΦA spec0 c
  else iprop(iprop(owns (c : Thread nD τ) scM0_0 fullShare (cosAt m c n) ∗ owns (c : Thread nD τ) scM0_1 fullShare (sinAt m c n)) ∗ (∃ r, prngReg c r))

/-- The proof data of the one pipeline on core `c`: every buffer's contents after every point named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => qAt m c t.val
    | ⟨7, _⟩ => kAt m c t.val
    | ⟨8, _⟩ => vAt m c t.val
    | ⟨9, _⟩ => codesAt m c t.val
    | ⟨10, _⟩ => scaleAt m c t.val
  Φ k := Phi m c k.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = qAt m c t.val := by dsimp only [dats]
theorem after0_7 (c : Dev nD) (t : Fin cfg0.N) : (dats m 0 c).after 7 t = kAt m c t.val := by dsimp only [dats]
theorem after0_8 (c : Dev nD) (t : Fin cfg0.N) : (dats m 0 c).after 8 t = vAt m c t.val := by dsimp only [dats]
theorem after0_9 (c : Dev nD) (t : Fin cfg0.N) : (dats m 0 c).after 9 t = codesAt m c t.val := by dsimp only [dats]
theorem after0_10 (c : Dev nD) (t : Fin cfg0.N) : (dats m 0 c).after 10 t = scaleAt m c t.val := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## Where the outputs are idle, written back, and fresh -/

theorem idle0_6 : ∀ t : Fin cfg0.N, cfg0.idle 6 (cfg0.grid.coords t) = decide (2 ≤ t.val % 6) :=
  (by decide +kernel : ∀ t : Fin grid0.N, cfg0.idle 6 (cfg0.grid.coords t) = decide (2 ≤ t.val % 6))
theorem flushF0_6 : ∀ t : Fin cfg0.N, (cfg0.win 6).flushF t = decide (t.val % 6 = 0 ∨ t.val % 6 = 5) :=
  (by decide +kernel : ∀ t : Fin grid0.N, (cfg0.win 6).flushF t = decide (t.val % 6 = 0 ∨ t.val % 6 = 5))
theorem flush0_6 (t : Fin cfg0.N) : (cfg0.win 6).flush t = decide (t.val % 6 = 0 ∨ t.val % 6 = 5) := by
  rw [Pipeline.Window.flush_eq_flushF]; exact flushF0_6 t
theorem fresh0_6 (t : Fin cfg0.N) : cfg0.fresh 6 t.val = decide (t.val % 6 ≤ 1) :=
  cfg0.fresh_tab 6 (fun n => decide (n % 6 ≤ 1)) (by decide) (fun t => by
    rw [flush0_6, idle0_6]
    exact (by decide : ∀ n < 36, decide ((n + 1) % 6 ≤ 1) = (decide (n % 6 = 0 ∨ n % 6 = 5) || (decide (2 ≤ n % 6) && decide (n % 6 ≤ 1)))) t.val (lt36 t)) t.val t.isLt.le
theorem idle0_7 : ∀ t : Fin cfg0.N, cfg0.idle 7 (cfg0.grid.coords t) = decide (t.val % 6 < 2 ∨ 4 ≤ t.val % 6) :=
  (by decide +kernel : ∀ t : Fin grid0.N, cfg0.idle 7 (cfg0.grid.coords t) = decide (t.val % 6 < 2 ∨ 4 ≤ t.val % 6))
theorem flushF0_7 : ∀ t : Fin cfg0.N, (cfg0.win 7).flushF t = decide (t.val % 6 = 2 ∨ t.val % 6 = 5) :=
  (by decide +kernel : ∀ t : Fin grid0.N, (cfg0.win 7).flushF t = decide (t.val % 6 = 2 ∨ t.val % 6 = 5))
theorem flush0_7 (t : Fin cfg0.N) : (cfg0.win 7).flush t = decide (t.val % 6 = 2 ∨ t.val % 6 = 5) := by
  rw [Pipeline.Window.flush_eq_flushF]; exact flushF0_7 t
theorem fresh0_7 (t : Fin cfg0.N) : cfg0.fresh 7 t.val = decide (t.val % 6 ≤ 3) :=
  cfg0.fresh_tab 7 (fun n => decide (n % 6 ≤ 3)) (by decide) (fun t => by
    rw [flush0_7, idle0_7]
    exact (by decide : ∀ n < 36, decide ((n + 1) % 6 ≤ 3) = (decide (n % 6 = 2 ∨ n % 6 = 5) || (decide (n % 6 < 2 ∨ 4 ≤ n % 6) && decide (n % 6 ≤ 3)))) t.val (lt36 t)) t.val t.isLt.le
theorem idle0_8 : ∀ t : Fin cfg0.N, cfg0.idle 8 (cfg0.grid.coords t) = decide (t.val % 6 < 4) :=
  (by decide +kernel : ∀ t : Fin grid0.N, cfg0.idle 8 (cfg0.grid.coords t) = decide (t.val % 6 < 4))
theorem flushF0_8 : ∀ t : Fin cfg0.N, (cfg0.win 8).flushF t = decide (4 ≤ t.val % 6) :=
  (by decide +kernel : ∀ t : Fin grid0.N, (cfg0.win 8).flushF t = decide (4 ≤ t.val % 6))
theorem flush0_8 (t : Fin cfg0.N) : (cfg0.win 8).flush t = decide (4 ≤ t.val % 6) := by
  rw [Pipeline.Window.flush_eq_flushF]; exact flushF0_8 t
theorem fresh0_8 (t : Fin cfg0.N) : cfg0.fresh 8 t.val = true :=
  cfg0.fresh_tab 8 (fun n => true) (by decide) (fun t => by
    rw [flush0_8, idle0_8]
    exact (by decide : ∀ n < 36, true = (decide (4 ≤ n % 6) || (decide (n % 6 < 4) && true))) t.val (lt36 t)) t.val t.isLt.le
theorem idle0_9 : ∀ t : Fin cfg0.N, cfg0.idle 9 (cfg0.grid.coords t) = decide (t.val % 6 ≠ 0) :=
  (by decide +kernel : ∀ t : Fin grid0.N, cfg0.idle 9 (cfg0.grid.coords t) = decide (t.val % 6 ≠ 0))
theorem flushF0_9 : ∀ t : Fin cfg0.N, (cfg0.win 9).flushF t = decide (t.val % 6 = 5) :=
  (by decide +kernel : ∀ t : Fin grid0.N, (cfg0.win 9).flushF t = decide (t.val % 6 = 5))
theorem flush0_9 (t : Fin cfg0.N) : (cfg0.win 9).flush t = decide (t.val % 6 = 5) := by
  rw [Pipeline.Window.flush_eq_flushF]; exact flushF0_9 t
theorem fresh0_9 (t : Fin cfg0.N) : cfg0.fresh 9 t.val = decide (t.val % 6 = 0) :=
  cfg0.fresh_tab 9 (fun n => decide (n % 6 = 0)) (by decide) (fun t => by
    rw [flush0_9, idle0_9]
    exact (by decide : ∀ n < 36, decide ((n + 1) % 6 = 0) = (decide (n % 6 = 5) || (decide (n % 6 ≠ 0) && decide (n % 6 = 0)))) t.val (lt36 t)) t.val t.isLt.le
theorem idle0_10 : ∀ t : Fin cfg0.N, cfg0.idle 10 (cfg0.grid.coords t) = decide (t.val % 6 ≠ 0) :=
  (by decide +kernel : ∀ t : Fin grid0.N, cfg0.idle 10 (cfg0.grid.coords t) = decide (t.val % 6 ≠ 0))
theorem flushF0_10 : ∀ t : Fin cfg0.N, (cfg0.win 10).flushF t = decide (t.val % 6 = 5) :=
  (by decide +kernel : ∀ t : Fin grid0.N, (cfg0.win 10).flushF t = decide (t.val % 6 = 5))
theorem flush0_10 (t : Fin cfg0.N) : (cfg0.win 10).flush t = decide (t.val % 6 = 5) := by
  rw [Pipeline.Window.flush_eq_flushF]; exact flushF0_10 t
theorem fresh0_10 (t : Fin cfg0.N) : cfg0.fresh 10 t.val = decide (t.val % 6 = 0) :=
  cfg0.fresh_tab 10 (fun n => decide (n % 6 = 0)) (by decide) (fun t => by
    rw [flush0_10, idle0_10]
    exact (by decide : ∀ n < 36, decide ((n + 1) % 6 = 0) = (decide (n % 6 = 5) || (decide (n % 6 ≠ 0) && decide (n % 6 = 0)))) t.val (lt36 t)) t.val t.isLt.le

/-! ## What the body finds in the outputs' buffers -/

theorem before0_6 (c : Dev nD) (t : Fin cfg0.N) (d) (h : 1 < t.val % 6) : (dats m 0 c).before 6 t d = qAt m c t.val := by
  have hc : ∀ (t : Fin cfg0.N) (_ : t.val ≠ 0), cfg0.idle 6 (cfg0.grid.coords t) = true → cfg0.fresh 6 t.val = false →
      (dats m 0 c).after 6 t = (dats m 0 c).after 6 ⟨t.val - 1, by omega⟩ := fun t h0 hi _ => by
    rw [idle0_6, decide_eq_true_eq] at hi
    rw [after0_6, after0_6]
    exact qAt_congr m c (show t.val / 6 = (t.val - 1) / 6 by omega) (by show qpt t.val = qpt (t.val - 1); unfold qpt; omega)
  rw [(dats m 0 c).before_out_traj 6 rfl (fun _ _ => rfl) hc t.val t rfl d, fresh0_6, if_neg (by simp only [decide_eq_true_eq]; omega), after0_6]
  exact (qAt_congr m c (show t.val / 6 = (t.val - 1) / 6 by omega) (by show qpt t.val = qpt (t.val - 1); unfold qpt; omega)).symm

theorem before0_7 (c : Dev nD) (t : Fin cfg0.N) (d) (h : 3 < t.val % 6) : (dats m 0 c).before 7 t d = kAt m c t.val := by
  have hc : ∀ (t : Fin cfg0.N) (_ : t.val ≠ 0), cfg0.idle 7 (cfg0.grid.coords t) = true → cfg0.fresh 7 t.val = false →
      (dats m 0 c).after 7 t = (dats m 0 c).after 7 ⟨t.val - 1, by omega⟩ := fun t h0 hi hf => by
    rw [idle0_7, decide_eq_true_eq] at hi
    rw [fresh0_7, decide_eq_false_iff_not] at hf
    rw [after0_7, after0_7]
    exact kAt_congr m c (show t.val / 6 = (t.val - 1) / 6 by omega) (by show kpt t.val = kpt (t.val - 1); unfold kpt; omega)
  rw [(dats m 0 c).before_out_traj 7 rfl (fun _ _ => rfl) hc t.val t rfl d, fresh0_7, if_neg (by simp only [decide_eq_true_eq]; omega), after0_7]
  exact (kAt_congr m c (show t.val / 6 = (t.val - 1) / 6 by omega) (by show kpt t.val = kpt (t.val - 1); unfold kpt; omega)).symm

theorem before0_9 (c : Dev nD) (t : Fin cfg0.N) (d) (h : t.val % 6 ≠ 0) : (dats m 0 c).before 9 t d = codesAt m c t.val := by
  have hc : ∀ (t : Fin cfg0.N) (_ : t.val ≠ 0), cfg0.idle 9 (cfg0.grid.coords t) = true → cfg0.fresh 9 t.val = false →
      (dats m 0 c).after 9 t = (dats m 0 c).after 9 ⟨t.val - 1, by omega⟩ := fun t h0 hi _ => by
    rw [idle0_9, decide_eq_true_eq] at hi
    rw [after0_9, after0_9]
    exact codesAt_congr m c (show t.val / 6 = (t.val - 1) / 6 by omega)
  rw [(dats m 0 c).before_out_traj 9 rfl (fun _ _ => rfl) hc t.val t rfl d, fresh0_9, if_neg (by simp only [decide_eq_true_eq]; omega), after0_9]
  exact (codesAt_congr m c (show t.val / 6 = (t.val - 1) / 6 by omega)).symm

theorem before0_10 (c : Dev nD) (t : Fin cfg0.N) (d) (h : t.val % 6 ≠ 0) : (dats m 0 c).before 10 t d = scaleAt m c t.val := by
  have hc : ∀ (t : Fin cfg0.N) (_ : t.val ≠ 0), cfg0.idle 10 (cfg0.grid.coords t) = true → cfg0.fresh 10 t.val = false →
      (dats m 0 c).after 10 t = (dats m 0 c).after 10 ⟨t.val - 1, by omega⟩ := fun t h0 hi _ => by
    rw [idle0_10, decide_eq_true_eq] at hi
    rw [after0_10, after0_10]
    exact scaleAt_congr m c (show t.val / 6 = (t.val - 1) / 6 by omega)
  rw [(dats m 0 c).before_out_traj 10 rfl (fun _ _ => rfl) hc t.val t rfl d, fresh0_10, if_neg (by simp only [decide_eq_true_eq]; omega), after0_10]
  exact (scaleAt_congr m c (show t.val / 6 = (t.val - 1) / 6 by omega)).symm

/-! ## What the body must hand back -/

/-- At a point where the body stores into the window, its contents after. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- At an idle point, what the body found is enough, when it is what `after` says or the block is not written back. -/
theorem leaves_found (c : Dev nD) (w : Fin cfg0.W) (t : Fin cfg0.N) (d) (hi : cfg0.idle w (cfg0.grid.coords t) = true)
    (h : (cfg0.win w).flush t = true → (dats m 0 c).before w t d = (dats m 0 c).after w t) :
    owns (c : Thread nD τ) ((cfg0.win w).stage (cfg0.slots t w)) fullShare ((dats m 0 c).before w t d) ⊢ (dats m 0 c).leavesExact w t := by
  by_cases hf : (cfg0.win w).flush t = true
  · rw [h hf]
    unfold Dat.leavesExact; rw [hi, hf]
  · rw [Bool.not_eq_true] at hf
    rw [Dat.leavesExact_idle _ w t hi hf]
    iintro H; iexists _; iexact H

end Cert.KernelIdeal.Val

end
-- ==== Proof.KArr.lean ====
/-
  The kernel's result arrays at the ideal values, read at an index: every result's blocks tile its array, and what a
  grid point writes back is its block of one function of the arrays the region finds.
-/
module

public import proofs.«01_k».proof.Proof.KVal
public import proofs.«01_k».proof.Proof.KData
public import Idealize.ShloMosaic.Lib.Pipeline.Value

@[expose] public section

set_option maxRecDepth 16384

noncomputable section

namespace Cert.KernelIdeal.Val

open Idealize.ShloMosaic Idealize.ShloMosaic.TcCoe
open Cert.KernelIdeal Cert.KernelIdeal.Gen Cert.Spec
open Idealize.ShloMosaic.ValueIdx
open Idealize.ShloMosaic.Pipeline (Dat Window)

variable (m : (ℓ : Loc nD τ sig) → Buf (Elt Ideal) ℓ) (c : Dev nD)

/-! ### The arrays the region finds -/

def aX : FVec Ideal S3072x7168 .bf16 := V m c main_v12
def aP : IVec S3072x1 32 := V m c main_v13
def aG : FVec Ideal S1x7168 .f32 := V m c main_v14
def aF : FVec Ideal S1x128 .f32 := V m c main_v11
def aW : FVec Ideal S6144x7168 .fp8e4m3 := V m c main_arg3
def aS : FVec Ideal S1x6144 .f32 := V m c main_v15

/-! ### Where each window's block sits -/

theorem at0 : ∀ t : Fin cfg0.N, win0_0.index t 0 = t.val / 6 ∧ win0_0.index t 1 = 0 :=
  (by decide +kernel : ∀ t : Fin grid0.N, win0_0.index t 0 = t.val / 6 ∧ win0_0.index t 1 = 0)
theorem at1 : ∀ t : Fin cfg0.N, win0_1.index t 0 = t.val / 6 ∧ win0_1.index t 1 = 0 :=
  (by decide +kernel : ∀ t : Fin grid0.N, win0_1.index t 0 = t.val / 6 ∧ win0_1.index t 1 = 0)
theorem at2 : ∀ t : Fin cfg0.N, win0_2.index t 0 = 0 ∧ win0_2.index t 1 = 0 :=
  (by decide +kernel : ∀ t : Fin grid0.N, win0_2.index t 0 = 0 ∧ win0_2.index t 1 = 0)
theorem at3 : ∀ t : Fin cfg0.N, win0_3.index t 0 = 0 ∧ win0_3.index t 1 = 0 :=
  (by decide +kernel : ∀ t : Fin grid0.N, win0_3.index t 0 = 0 ∧ win0_3.index t 1 = 0)
theorem at4 : ∀ t : Fin cfg0.N, win0_4.index t 0 = t.val % 6 ∧ win0_4.index t 1 = 0 :=
  (by decide +kernel : ∀ t : Fin grid0.N, win0_4.index t 0 = t.val % 6 ∧ win0_4.index t 1 = 0)
theorem at5 : ∀ t : Fin cfg0.N, win0_5.index t 0 = 0 ∧ win0_5.index t 1 = t.val % 6 :=
  (by decide +kernel : ∀ t : Fin grid0.N, win0_5.index t 0 = 0 ∧ win0_5.index t 1 = t.val % 6)
theorem at6 : ∀ t : Fin cfg0.N, win0_6.index t 0 = t.val / 6 ∧ win0_6.index t 1 = min (t.val % 6) 1 ∧ win0_6.index t 2 = 0 :=
  (by decide +kernel : ∀ t : Fin grid0.N, win0_6.index t 0 = t.val / 6 ∧ win0_6.index t 1 = min (t.val % 6) 1 ∧ win0_6.index t 2 = 0)
theorem at7 : ∀ t : Fin cfg0.N, win0_7.index t 0 = t.val / 6 ∧ win0_7.index t 1 = min (t.val % 6 - 2) 1 ∧ win0_7.index t 2 = 0 :=
  (by decide +kernel : ∀ t : Fin grid0.N, win0_7.index t 0 = t.val / 6 ∧ win0_7.index t 1 = min (t.val % 6 - 2) 1 ∧ win0_7.index t 2 = 0)
theorem at8 : ∀ t : Fin cfg0.N, win0_8.index t 0 = t.val / 6 ∧ win0_8.index t 1 = min (t.val % 6 - 4) 1 ∧ win0_8.index t 2 = 0 :=
  (by decide +kernel : ∀ t : Fin grid0.N, win0_8.index t 0 = t.val / 6 ∧ win0_8.index t 1 = min (t.val % 6 - 4) 1 ∧ win0_8.index t 2 = 0)
theorem at9 : ∀ t : Fin cfg0.N, win0_9.index t 0 = t.val / 6 ∧ win0_9.index t 1 = 0 :=
  (by decide +kernel : ∀ t : Fin grid0.N, win0_9.index t 0 = t.val / 6 ∧ win0_9.index t 1 = 0)
theorem at10 : ∀ t : Fin cfg0.N, win0_10.index t 0 = t.val / 6 ∧ win0_10.index t 1 = 0 :=
  (by decide +kernel : ∀ t : Fin grid0.N, win0_10.index t 0 = t.val / 6 ∧ win0_10.index t 1 = 0)

/-! ### The input blocks, read at an index -/

theorem in0 (t : Fin cfg0.N) (i : Fin 512) (j : Fin 7168) (r : Fin 3072) (hr : r.val = 512 * (t.val / 6) + i.val) :
    iblk m c 0 t (ix2 i j) = aX m c (ix2 r j) := by
  show V m c main_v12 ((win0_0.rect t).emb (ix2 i j)) = V m c main_v12 (ix2 r j)
  refine congrArg (V m c main_v12) (funext fun a => Fin.ext ?_)
  refine (Window.rect_emb_val win0_0 t _ a).trans ?_
  match a with
  | ⟨0, _⟩ => show win0_0.index t 0 * 512 + i.val = r.val; rw [(at0 t).1]; omega
  | ⟨1, _⟩ => show win0_0.index t 1 * 7168 + j.val = j.val; rw [(at0 t).2]; omega

theorem in1 (t : Fin cfg0.N) (i : Fin 512) (r : Fin 3072) (hr : r.val = 512 * (t.val / 6) + i.val) :
    iblk m c 1 t (ix2 i 0) = aP m c (ix2 r 0) := by
  show V m c main_v13 ((win0_1.rect t).emb (ix2 i 0)) = V m c main_v13 (ix2 r 0)
  refine congrArg (V m c main_v13) (funext fun a => Fin.ext ?_)
  refine (Window.rect_emb_val win0_1 t _ a).trans ?_
  match a with
  | ⟨0, _⟩ => show win0_1.index t 0 * 512 + i.val = r.val; rw [(at1 t).1]; omega
  | ⟨1, _⟩ => show win0_1.index t 1 * 1 + 0 = 0; rw [(at1 t).2]

theorem in2 (t : Fin cfg0.N) (j : Fin 7168) : iblk m c 2 t (ix2 0 j) = aG m c (ix2 0 j) := by
  show V m c main_v14 ((win0_2.rect t).emb (ix2 0 j)) = V m c main_v14 (ix2 0 j)
  refine congrArg (V m c main_v14) (funext fun a => Fin.ext ?_)
  refine (Window.rect_emb_val win0_2 t _ a).trans ?_
  match a with
  | ⟨0, _⟩ => show win0_2.index t 0 * 1 + 0 = 0; rw [(at2 t).1]
  | ⟨1, _⟩ => show win0_2.index t 1 * 7168 + j.val = j.val; rw [(at2 t).2]; omega

theorem in3 (t : Fin cfg0.N) (l : Fin 128) : iblk m c 3 t (ix2 0 l) = aF m c (ix2 0 l) := by
  show V m c main_v11 ((win0_3.rect t).emb (ix2 0 l)) = V m c main_v11 (ix2 0 l)
  refine congrArg (V m c main_v11) (funext fun a => Fin.ext ?_)
  refine (Window.rect_emb_val win0_3 t _ a).trans ?_
  match a with
  | ⟨0, _⟩ => show win0_3.index t 0 * 1 + 0 = 0; rw [(at3 t).1]
  | ⟨1, _⟩ => show win0_3.index t 1 * 128 + l.val = l.val; rw [(at3 t).2]; omega

theorem in4 (t : Fin cfg0.N) (o : Fin 1024) (k : Fin 7168) (r : Fin 6144) (hr : r.val = 1024 * (t.val % 6) + o.val) :
    iblk m c 4 t (ix2 o k) = aW m c (ix2 r k) := by
  show V m c main_arg3 ((win0_4.rect t).emb (ix2 o k)) = V m c main_arg3 (ix2 r k)
  refine congrArg (V m c main_arg3) (funext fun a => Fin.ext ?_)
  refine (Window.rect_emb_val win0_4 t _ a).trans ?_
  match a with
  | ⟨0, _⟩ => show win0_4.index t 0 * 1024 + o.val = r.val; rw [(at4 t).1]; omega
  | ⟨1, _⟩ => show win0_4.index t 1 * 7168 + k.val = k.val; rw [(at4 t).2]; omega

theorem in5 (t : Fin cfg0.N) (o : Fin 1024) (r : Fin 6144) (hr : r.val = 1024 * (t.val % 6) + o.val) :
    iblk m c 5 t (ix2 0 o) = aS m c (ix2 0 r) := by
  show V m c main_v15 ((win0_5.rect t).emb (ix2 0 o)) = V m c main_v15 (ix2 0 r)
  refine congrArg (V m c main_v15) (funext fun a => Fin.ext ?_)
  refine (Window.rect_emb_val win0_5 t _ a).trans ?_
  match a with
  | ⟨0, _⟩ => show win0_5.index t 0 * 1 + 0 = 0; rw [(at5 t).1]
  | ⟨1, _⟩ => show win0_5.index t 1 * 1024 + o.val = r.val; rw [(at5 t).2]; omega

/-! ### What each block holds, read at an index -/

/-- A finite gain: what the quantiser's scale needs. -/
def GainFinite : Prop := ∀ j : Fin 7168, max (aG m c (ix2 0 j)) (-(aG m c (ix2 0 j))) ≤ fmax

variable {m c}

/-- A row of the activations, and the gain. -/
def rowX (m : (ℓ : Loc nD τ sig) → Buf (Elt Ideal) ℓ) (c : Dev nD) (r : Fin 3072) : Fin 7168 → EReal := fun k => aX m c (ix2 r k)
def rowG (m : (ℓ : Loc nD τ sig) → Buf (Elt Ideal) ℓ) (c : Dev nD) : Fin 7168 → EReal := fun k => aG m c (ix2 0 k)
def rowW (m : (ℓ : Loc nD τ sig) → Buf (Elt Ideal) ℓ) (c : Dev nD) (o : Fin 6144) : Fin 7168 → EReal := fun k => aW m c (ix2 o k)

theorem pt6 (n : ℕ) (h : n < 36) : (pt (6 * (n / 6))).val / 6 = n / 6 := by
  show (6 * (n / 6)) % 36 / 6 = n / 6; omega

theorem codesAt_apply (hg : GainFinite m c) (n : ℕ) (hn : n < 36) (i : Fin 512) (j : Fin 7168) (r : Fin 3072) (hr : r.val = 512 * (n / 6) + i.val) :
    codesAt m c n (ix2 i j) = codeRow (rowX m c r) (rowG m c) j := by
  unfold codesAt
  rw [CODES_apply _ _ (fun j => by rw [in2]; exact hg j)]
  exact congrArg₂ (fun X g => codeRow X g j) (funext fun k => in0 m c _ i k r (by rw [pt6 n hn]; exact hr)) (funext fun k => in2 m c _ k)

theorem scaleAt_apply (hg : GainFinite m c) (n : ℕ) (hn : n < 36) (i : Fin 512) (r : Fin 3072) (hr : r.val = 512 * (n / 6) + i.val) :
    scaleAt m c n (ix2 i 0) = scaleRow (rowX m c r) (rowG m c) := by
  unfold scaleAt
  rw [SCALE_apply _ _ (fun j => by rw [in2]; exact hg j)]
  exact congrArg₂ scaleRow (funext fun k => in0 m c _ i k r (by rw [pt6 n hn]; exact hr)) (funext fun k => in2 m c _ k)

theorem cosAt_apply (n : ℕ) (hn : n < 36) (i : Fin 512) (l : Fin 128) (r : Fin 3072) (hr : r.val = 512 * (n / 6) + i.val) :
    cosAt m c n (ix2 i l) = Ideal.cos (angle (aP m c (ix2 r 0)) (aF m c (ix2 0 l))) := by
  unfold cosAt angle
  rw [COS_apply, in1 m c _ i r (by rw [pt6 n hn]; exact hr), in3]

theorem sinAt_apply (n : ℕ) (hn : n < 36) (i : Fin 512) (l : Fin 128) (r : Fin 3072) (hr : r.val = 512 * (n / 6) + i.val) :
    sinAt m c n (ix2 i l)
      = if l.val < 64 then 0 - Ideal.sin (angle (aP m c (ix2 r 0)) (aF m c (ix2 0 l))) else Ideal.sin (angle (aP m c (ix2 r 0)) (aF m c (ix2 0 l))) := by
  unfold sinAt angle
  rw [SIN_apply, in1 m c _ i r (by rw [pt6 n hn]; exact hr), in3]

/-- A projected block at point `p` of row `n`'s codes and scales. -/
theorem proj_apply (hg : GainFinite m c) (n p : ℕ) (hn : n < 36) (hp : p < 36) (i : Fin 512) (q : Fin 1024) (r : Fin 3072) (o : Fin 6144)
    (hr : r.val = 512 * (n / 6) + i.val) (ho : o.val = 1024 * (p % 6) + q.val) :
    k0_pay7 (F := Ideal) (codesAt m c n) (iblk m c 4 (pt p)) (scaleAt m c n) (iblk m c 5 (pt p)) (ix2 i q)
      = yRow (rowX m c r) (rowG m c) (rowW m c o) (aS m c (ix2 0 o)) := by
  have e : (pt p).val % 6 = p % 6 := by show p % 36 % 6 = p % 6; omega
  rw [pay7_apply, scaleAt_apply hg n hn i r hr, in5 m c _ q o (by rw [e]; exact ho)]
  unfold yRow
  refine congrArg (fun z : EReal => z * scaleRow (rowX m c r) (rowG m c) * aS m c (ix2 0 o)) ?_
  refine Finset.sum_congr rfl fun k _ => ?_
  rw [codesAt_apply hg n hn i k r hr, in4 m c _ q k o (by rw [e]; exact ho)]
  rfl

/-- The frequencies' second half repeats the first. -/
def Twice (m : (ℓ : Loc nD τ sig) → Buf (Elt Ideal) ℓ) (c : Dev nD) : Prop :=
  ∀ l : Fin 128, aF m c (ix2 0 l) = aF m c (ix2 0 ⟨l.val % 64, by omega⟩)

/-- A projected entry. -/
def proj (m : (ℓ : Loc nD τ sig) → Buf (Elt Ideal) ℓ) (c : Dev nD) (r : Fin 3072) (o : Fin 6144) : EReal :=
  yRow (rowX m c r) (rowG m c) (rowW m c o) (aS m c (ix2 0 o))

/-- A rotated entry of the heads that start at channel `o`. -/
def rotated (m : (ℓ : Loc nD τ sig) → Buf (Elt Ideal) ℓ) (c : Dev nD) (o : ℕ) (ho : o + 2048 ≤ 6144) (r : Fin 3072) (h : Fin 16) (l : Fin 128) : EReal :=
  rotLane (fun l => proj m c r ⟨o + (128 * h.val + l.val), by omega⟩) (fun d => angle (aP m c (ix2 r 0)) (aF m c (ix2 0 ⟨d.val, by omega⟩))) l

/-- A rotated block: point `p` of row `n`, its heads from `8 * b` on of those that start at channel `o`. -/
theorem rot_block (hg : GainFinite m c) (ht : Twice m c) (n p : ℕ) (hn : n < 36) (hp : p < 36) (o b : ℕ) (ho : o + 2048 ≤ 6144)
    (hb : 1024 * (p % 6) = o + 1024 * b) (i : Fin 512) (h : Fin 8) (l : Fin 128) (r : Fin 3072) (hr : r.val = 512 * (n / 6) + i.val)
    (H : Fin 16) (hH : H.val = 8 * b + h.val) :
    QF (F := Ideal) (codesAt m c n) (iblk m c 4 (pt p)) (scaleAt m c n) (iblk m c 5 (pt p)) (cosAt m c n) (sinAt m c n) (ix3 i h l)
      = rotated m c o ho r H l := by
  rw [QF_apply _ _ _ _ _ _ i h l ⟨128 * h.val + l.val, by omega⟩ ⟨128 * h.val + (l.val + 64) % 128, by omega⟩ rfl rfl,
    proj_apply hg n p hn hp i _ r ⟨o + (128 * H.val + l.val), by omega⟩ hr (by show o + (128 * H.val + l.val) = 1024 * (p % 6) + (128 * h.val + l.val); omega),
    proj_apply hg n p hn hp i _ r ⟨o + (128 * H.val + (l.val + 64) % 128), by omega⟩ hr
      (by show o + (128 * H.val + (l.val + 64) % 128) = 1024 * (p % 6) + (128 * h.val + (l.val + 64) % 128); omega),
    cosAt_apply n hn i l r hr, sinAt_apply n hn i l r hr, ht l]
  unfold rotated rotLane
  by_cases hl : l.val < 64
  · rw [dif_pos hl, if_pos hl, zero_sub, mul_neg, ← sub_eq_add_neg]
    have e : l.val % 64 = l.val := Nat.mod_eq_of_lt hl
    have e' : (l.val + 64) % 128 = l.val + 64 := Nat.mod_eq_of_lt (by omega)
    simp only [e, e']
    rfl
  · rw [dif_neg hl, if_neg hl]
    have e : l.val % 64 = l.val - 64 := by omega
    have e' : (l.val + 64) % 128 = l.val - 64 := by omega
    simp only [e, e']
    rfl

theorem val_block (hg : GainFinite m c) (n p : ℕ) (hn : n < 36) (hp : p < 36) (b : ℕ)
    (hb : 1024 * (p % 6) = 4096 + 1024 * b) (i : Fin 512) (h : Fin 8) (l : Fin 128) (r : Fin 3072) (hr : r.val = 512 * (n / 6) + i.val)
    (H : Fin 16) (hH : H.val = 8 * b + h.val) :
    VF (F := Ideal) (codesAt m c n) (iblk m c 4 (pt p)) (scaleAt m c n) (iblk m c 5 (pt p)) (ix3 i h l)
      = proj m c r ⟨4096 + (128 * H.val + l.val), by omega⟩ := by
  rw [VF_apply _ _ _ _ i h l ⟨128 * h.val + l.val, by omega⟩ rfl,
    proj_apply hg n p hn hp i _ r ⟨4096 + (128 * H.val + l.val), by omega⟩ hr (by show 4096 + (128 * H.val + l.val) = 1024 * (p % 6) + (128 * h.val + l.val); omega)]
  rfl

/-! ### The result arrays -/

def resC (m : (ℓ : Loc nD τ sig) → Buf (Elt Ideal) ℓ) (c : Dev nD) : FVec Ideal S3072x7168 .fp8e4m3 := fun y => codeRow (rowX m c (y 0)) (rowG m c) (y 1)
def resS (m : (ℓ : Loc nD τ sig) → Buf (Elt Ideal) ℓ) (c : Dev nD) : FVec Ideal S3072x1 .f32 := fun y => scaleRow (rowX m c (y 0)) (rowG m c)
def resR (m : (ℓ : Loc nD τ sig) → Buf (Elt Ideal) ℓ) (c : Dev nD) (o : ℕ) (ho : o + 2048 ≤ 6144) : FVec Ideal S3072x16x128 .bf16 :=
  fun y => rotated m c o ho (y 0) (y 1) (y 2)
def resV (m : (ℓ : Loc nD τ sig) → Buf (Elt Ideal) ℓ) (c : Dev nD) : FVec Ideal S3072x16x128 .bf16 :=
  fun y => proj m c (y 0) ⟨4096 + (128 * (y 1).val + (y 2).val), by have h1 : (y 1).val < 16 := (y 1).isLt; have h2 : (y 2).val < 128 := (y 2).isLt; omega⟩

theorem emb9 (t : Fin cfg0.N) (i : Fin 512) (j : Fin 7168) (r : Fin 3072) (hr : r.val = 512 * (t.val / 6) + i.val) :
    (win0_9.rect t).emb (ix2 i j) = ix2 r j := by
  refine funext fun a => Fin.ext ?_
  refine (Window.rect_emb_val win0_9 t _ a).trans ?_
  match a with
  | ⟨0, _⟩ => show win0_9.index t 0 * 512 + i.val = r.val; rw [(at9 t).1]; omega
  | ⟨1, _⟩ => show win0_9.index t 1 * 7168 + j.val = j.val; rw [(at9 t).2]; omega

theorem arr9 (hg : GainFinite m c) : (dats m 0 c).arrAt 9 cfg0.N = resC m c := by
  refine (dats m 0 c).arrAt_eq_of_cover 9 (resC m c) (fun t _ => ?_) (fun y => ?_)
  · funext y
    have h0 : (y 0).val < 512 := (y 0).isLt
    have hn := lt36 t
    obtain ⟨i, j, rfl⟩ : ∃ (i : Fin 512) (j : Fin 7168), y = ix2 i j := ⟨y 0, y 1, eq_ix2 y⟩
    show (dats m 0 c).after 9 t (ix2 i j) = resC m c ((win0_9.rect t).emb (ix2 i j))
    have hi : i.val < 512 := i.isLt
    rw [after0_9, emb9 t i j ⟨512 * (t.val / 6) + i.val, by omega⟩ rfl, codesAt_apply hg t.val hn i j ⟨512 * (t.val / 6) + i.val, by omega⟩ rfl]
    rfl
  · obtain ⟨r, j, rfl⟩ : ∃ (r : Fin 3072) (j : Fin 7168), y = ix2 r j := ⟨y 0, y 1, eq_ix2 y⟩
    have hr : r.val < 3072 := r.isLt
    have hv : (pt (6 * (r.val / 512) + 5)).val = 6 * (r.val / 512) + 5 := by show (6 * (r.val / 512) + 5) % 36 = _; omega
    refine ⟨pt (6 * (r.val / 512) + 5), by rw [flush0_9, hv, decide_eq_true_eq]; omega, ?_⟩
    have e := emb9 (pt (6 * (r.val / 512) + 5)) ⟨r.val % 512, by omega⟩ j r (by rw [hv]; show r.val = 512 * ((6 * (r.val / 512) + 5) / 6) + r.val % 512; omega)
    rw [← e]
    exact ((cfg0.win 9).blk (pt (6 * (r.val / 512) + 5))).view.emb_mem_set (ix2 ⟨r.val % 512, by omega⟩ j)

theorem emb10 (t : Fin cfg0.N) (i : Fin 512) (r : Fin 3072) (hr : r.val = 512 * (t.val / 6) + i.val) :
    (win0_10.rect t).emb (ix2 i 0) = ix2 r 0 := by
  refine funext fun a => Fin.ext ?_
  refine (Window.rect_emb_val win0_10 t _ a).trans ?_
  match a with
  | ⟨0, _⟩ => show win0_10.index t 0 * 512 + i.val = r.val; rw [(at10 t).1]; omega
  | ⟨1, _⟩ => show win0_10.index t 1 * 1 + 0 = 0; rw [(at10 t).2]

theorem arr10 (hg : GainFinite m c) : (dats m 0 c).arrAt 10 cfg0.N = resS m c := by
  refine (dats m 0 c).arrAt_eq_of_cover 10 (resS m c) (fun t _ => ?_) (fun y => ?_)
  · funext y
    have hn := lt36 t
    obtain ⟨i, rfl⟩ : ∃ i : Fin 512, y = ix2 i 0 := ⟨y 0, (eq_ix2 y).trans (congrArg (ix2 (y 0)) (Subsingleton.elim (α := Fin 1) _ _))⟩
    show (dats m 0 c).after 10 t (ix2 i 0) = resS m c ((win0_10.rect t).emb (ix2 i 0))
    have hi : i.val < 512 := i.isLt
    rw [after0_10, emb10 t i ⟨512 * (t.val / 6) + i.val, by omega⟩ rfl, scaleAt_apply hg t.val hn i ⟨512 * (t.val / 6) + i.val, by omega⟩ rfl]
    rfl
  · obtain ⟨r, rfl⟩ : ∃ r : Fin 3072, y = ix2 r 0 := ⟨y 0, (eq_ix2 y).trans (congrArg (ix2 (y 0)) (Subsingleton.elim (α := Fin 1) _ _))⟩
    have hr : r.val < 3072 := r.isLt
    have hv : (pt (6 * (r.val / 512) + 5)).val = 6 * (r.val / 512) + 5 := by show (6 * (r.val / 512) + 5) % 36 = _; omega
    refine ⟨pt (6 * (r.val / 512) + 5), by rw [flush0_10, hv, decide_eq_true_eq]; omega, ?_⟩
    have e := emb10 (pt (6 * (r.val / 512) + 5)) ⟨r.val % 512, by omega⟩ r (by rw [hv]; show r.val = 512 * ((6 * (r.val / 512) + 5) / 6) + r.val % 512; omega)
    rw [← e]
    exact ((cfg0.win 10).blk (pt (6 * (r.val / 512) + 5))).view.emb_mem_set (ix2 ⟨r.val % 512, by omega⟩ 0)

theorem emb6 (t : Fin cfg0.N) (i : Fin 512) (h : Fin 8) (l : Fin 128) (r : Fin 3072) (H : Fin 16)
    (hr : r.val = 512 * (t.val / 6) + i.val) (hH : H.val = 8 * min (t.val % 6 - 0) 1 + h.val) :
    (win0_6.rect t).emb (ix3 i h l) = ix3 r H l := by
  refine funext fun a => Fin.ext ?_
  refine (Window.rect_emb_val win0_6 t _ a).trans ?_
  match a with
  | ⟨0, _⟩ => show win0_6.index t 0 * 512 + i.val = r.val; rw [(at6 t).1]; omega
  | ⟨1, _⟩ => show win0_6.index t 1 * 8 + h.val = H.val; rw [(at6 t).2.1]; omega
  | ⟨2, _⟩ => show win0_6.index t 2 * 128 + l.val = l.val; rw [(at6 t).2.2]; omega

theorem arr6 (hg : GainFinite m c) (ht : Twice m c) : (dats m 0 c).arrAt 6 cfg0.N = resR m c 0 (by omega) := by
  refine (dats m 0 c).arrAt_eq_of_cover 6 (resR m c 0 (by omega)) (fun t hf => ?_) (fun y => ?_)
  · funext y
    have hn := lt36 t
    rw [flush0_6, decide_eq_true_eq] at hf
    obtain ⟨i, h, l, rfl⟩ : ∃ (i : Fin 512) (h : Fin 8) (l : Fin 128), y = ix3 i h l := ⟨y 0, y 1, y 2, eq_ix3 y⟩
    show (dats m 0 c).after 6 t (ix3 i h l) = (resR m c 0 (by omega)) ((win0_6.rect t).emb (ix3 i h l))
    have hi : i.val < 512 := i.isLt
    have hh : h.val < 8 := h.isLt
    rw [after0_6, emb6 t i h l ⟨512 * (t.val / 6) + i.val, by omega⟩ ⟨8 * min (t.val % 6 - 0) 1 + h.val, by omega⟩ rfl rfl]
    unfold qAt
    exact rot_block hg ht t.val (qpt t.val) hn (by unfold qpt; omega) 0 (min (t.val % 6 - 0) 1) (by omega) (by unfold qpt; omega) i h l _ rfl _ rfl
  · obtain ⟨r, H, l, rfl⟩ : ∃ (r : Fin 3072) (H : Fin 16) (l : Fin 128), y = ix3 r H l := ⟨y 0, y 1, y 2, eq_ix3 y⟩
    have hr : r.val < 3072 := r.isLt
    have hH : H.val < 16 := H.isLt
    have hb : H.val / 8 = 0 ∨ H.val / 8 = 1 := by omega
    obtain ⟨n, hn⟩ : ∃ n, n = 6 * (r.val / 512) + (0 + 5 * (H.val / 8)) := ⟨_, rfl⟩
    have hv : (pt n).val = n := by show n % 36 = n; omega
    refine ⟨pt n, by rw [flush0_6, hv, decide_eq_true_eq]; omega, ?_⟩
    have e := emb6 (pt n) ⟨r.val % 512, by omega⟩ ⟨H.val % 8, by omega⟩ l r H
      (by rw [hv]; show r.val = 512 * (n / 6) + r.val % 512; omega) (by rw [hv]; show H.val = 8 * min (n % 6 - 0) 1 + H.val % 8; omega)
    rw [← e]
    exact ((cfg0.win 6).blk (pt n)).view.emb_mem_set (ix3 ⟨r.val % 512, by omega⟩ ⟨H.val % 8, by omega⟩ l)

theorem emb7 (t : Fin cfg0.N) (i : Fin 512) (h : Fin 8) (l : Fin 128) (r : Fin 3072) (H : Fin 16)
    (hr : r.val = 512 * (t.val / 6) + i.val) (hH : H.val = 8 * min (t.val % 6 - 2) 1 + h.val) :
    (win0_7.rect t).emb (ix3 i h l) = ix3 r H l := by
  refine funext fun a => Fin.ext ?_
  refine (Window.rect_emb_val win0_7 t _ a).trans ?_
  match a with
  | ⟨0, _⟩ => show win0_7.index t 0 * 512 + i.val = r.val; rw [(at7 t).1]; omega
  | ⟨1, _⟩ => show win0_7.index t 1 * 8 + h.val = H.val; rw [(at7 t).2.1]; omega
  | ⟨2, _⟩ => show win0_7.index t 2 * 128 + l.val = l.val; rw [(at7 t).2.2]; omega

theorem arr7 (hg : GainFinite m c) (ht : Twice m c) : (dats m 0 c).arrAt 7 cfg0.N = resR m c 2048 (by omega) := by
  refine (dats m 0 c).arrAt_eq_of_cover 7 (resR m c 2048 (by omega)) (fun t hf => ?_) (fun y => ?_)
  · funext y
    have hn := lt36 t
    rw [flush0_7, decide_eq_true_eq] at hf
    obtain ⟨i, h, l, rfl⟩ : ∃ (i : Fin 512) (h : Fin 8) (l : Fin 128), y = ix3 i h l := ⟨y 0, y 1, y 2, eq_ix3 y⟩
    show (dats m 0 c).after 7 t (ix3 i h l) = (resR m c 2048 (by omega)) ((win0_7.rect t).emb (ix3 i h l))
    have hi : i.val < 512 := i.isLt
    have hh : h.val < 8 := h.isLt
    rw [after0_7, emb7 t i h l ⟨512 * (t.val / 6) + i.val, by omega⟩ ⟨8 * min (t.val % 6 - 2) 1 + h.val, by omega⟩ rfl rfl]
    unfold kAt
    exact rot_block hg ht t.val (kpt t.val) hn (by unfold kpt; omega) 2048 (min (t.val % 6 - 2) 1) (by omega) (by unfold kpt; omega) i h l _ rfl _ rfl
  · obtain ⟨r, H, l, rfl⟩ : ∃ (r : Fin 3072) (H : Fin 16) (l : Fin 128), y = ix3 r H l := ⟨y 0, y 1, y 2, eq_ix3 y⟩
    have hr : r.val < 3072 := r.isLt
    have hH : H.val < 16 := H.isLt
    have hb : H.val / 8 = 0 ∨ H.val / 8 = 1 := by omega
    obtain ⟨n, hn⟩ : ∃ n, n = 6 * (r.val / 512) + (2 + 3 * (H.val / 8)) := ⟨_, rfl⟩
    have hv : (pt n).val = n := by show n % 36 = n; omega
    refine ⟨pt n, by rw [flush0_7, hv, decide_eq_true_eq]; omega, ?_⟩
    have e := emb7 (pt n) ⟨r.val % 512, by omega⟩ ⟨H.val % 8, by omega⟩ l r H
      (by rw [hv]; show r.val = 512 * (n / 6) + r.val % 512; omega) (by rw [hv]; show H.val = 8 * min (n % 6 - 2) 1 + H.val % 8; omega)
    rw [← e]
    exact ((cfg0.win 7).blk (pt n)).view.emb_mem_set (ix3 ⟨r.val % 512, by omega⟩ ⟨H.val % 8, by omega⟩ l)

theorem emb8 (t : Fin cfg0.N) (i : Fin 512) (h : Fin 8) (l : Fin 128) (r : Fin 3072) (H : Fin 16)
    (hr : r.val = 512 * (t.val / 6) + i.val) (hH : H.val = 8 * min (t.val % 6 - 4) 1 + h.val) :
    (win0_8.rect t).emb (ix3 i h l) = ix3 r H l := by
  refine funext fun a => Fin.ext ?_
  refine (Window.rect_emb_val win0_8 t _ a).trans ?_
  match a with
  | ⟨0, _⟩ => show win0_8.index t 0 * 512 + i.val = r.val; rw [(at8 t).1]; omega
  | ⟨1, _⟩ => show win0_8.index t 1 * 8 + h.val = H.val; rw [(at8 t).2.1]; omega
  | ⟨2, _⟩ => show win0_8.index t 2 * 128 + l.val = l.val; rw [(at8 t).2.2]; omega

theorem arr8 (hg : GainFinite m c) : (dats m 0 c).arrAt 8 cfg0.N = resV m c := by
  refine (dats m 0 c).arrAt_eq_of_cover 8 (resV m c) (fun t hf => ?_) (fun y => ?_)
  · funext y
    have hn := lt36 t
    rw [flush0_8, decide_eq_true_eq] at hf
    obtain ⟨i, h, l, rfl⟩ : ∃ (i : Fin 512) (h : Fin 8) (l : Fin 128), y = ix3 i h l := ⟨y 0, y 1, y 2, eq_ix3 y⟩
    show (dats m 0 c).after 8 t (ix3 i h l) = (resV m c) ((win0_8.rect t).emb (ix3 i h l))
    have hi : i.val < 512 := i.isLt
    have hh : h.val < 8 := h.isLt
    rw [after0_8, emb8 t i h l ⟨512 * (t.val / 6) + i.val, by omega⟩ ⟨8 * min (t.val % 6 - 4) 1 + h.val, by omega⟩ rfl rfl]
    unfold vAt
    exact val_block hg t.val (vpt t.val) hn (by unfold vpt; omega) (min (t.val % 6 - 4) 1) (by unfold vpt; omega) i h l _ rfl _ rfl
  · obtain ⟨r, H, l, rfl⟩ : ∃ (r : Fin 3072) (H : Fin 16) (l : Fin 128), y = ix3 r H l := ⟨y 0, y 1, y 2, eq_ix3 y⟩
    have hr : r.val < 3072 := r.isLt
    have hH : H.val < 16 := H.isLt
    have hb : H.val / 8 = 0 ∨ H.val / 8 = 1 := by omega
    obtain ⟨n, hn⟩ : ∃ n, n = 6 * (r.val / 512) + (4 + 1 * (H.val / 8)) := ⟨_, rfl⟩
    have hv : (pt n).val = n := by show n % 36 = n; omega
    refine ⟨pt n, by rw [flush0_8, hv, decide_eq_true_eq]; omega, ?_⟩
    have e := emb8 (pt n) ⟨r.val % 512, by omega⟩ ⟨H.val % 8, by omega⟩ l r H
      (by rw [hv]; show r.val = 512 * (n / 6) + r.val % 512; omega) (by rw [hv]; show H.val = 8 * min (n % 6 - 4) 1 + H.val % 8; omega)
    rw [← e]
    exact ((cfg0.win 8).blk (pt n)).view.emb_mem_set (ix3 ⟨r.val % 512, by omega⟩ ⟨H.val % 8, by omega⟩ l)

end Cert.KernelIdeal.Val

end
-- ==== Proof.RVal.lean ====
/-
  The reference's payloads at the ideal values, read at an index.
-/
module

public import proofs.«01_k».proof.Proof.Idx
public import proofs.«01_k».proof.Proof.Gen.ReferenceIdeal.Skeleton

@[expose] public section

set_option maxRecDepth 16384

noncomputable section

namespace Cert.ReferenceIdeal.Val

open Idealize.ShloMosaic Idealize.ShloMosaic.TcCoe
open Cert.ReferenceIdeal Cert.ReferenceIdeal.Gen Cert.Spec
open Idealize.ShloMosaic.ValueIdx

theorem div_7168 (x : EReal) : Ideal.div x (Ideal.ofBits .f32 0x45E00000#32) = x * ((1 / 7168 : ℝ) : EReal) := by
  rw [ofBits_7168, Ideal.div_coe (by norm_num)]

set_option backward.isDefEq.respectTransparency false in
theorem pay4_apply (x : FVec Ideal S3072x7168 .bf16) (g : FVec Ideal S1x7168 .f32) (r : Fin 3072) (k : Fin 7168) :
    k0_pay4 (F := Ideal) x g (ix2 r k) = hRow (fun k => x (ix2 r k)) (fun k => g (ix2 0 k)) k := by
  simp only [k0_pay4, shapeCast_self, mulf_apply, bc_col, bc_row, extf_apply]
  unfold hRow
  rw [show ∀ v : FVec Ideal S3072x1 .f32, rsqrt v (ix2 r 0) = Ideal.rsqrt (v (ix2 r 0)) from fun _ => rfl]
  simp only [addf_apply, divf_apply, mulf_apply, broadcast_apply, sc_col]
  rw [red_add]
  simp only [mulf_apply, extf_apply]
  rw [← div_7168]
  rfl

theorem select_lt {α : Type} (a b : EReal) (x y : α) : Scalar.select (Ideal.cmp .olt a b) x y = if a < b then x else y := by
  by_cases h : a < b <;> simp [Scalar.select, Ideal.cmp, h]

theorem select_le {α : Type} (a b : EReal) (x y : α) : Scalar.select (Ideal.cmp .ole a b) x y = if a ≤ b then x else y := by
  by_cases h : a ≤ b <;> simp [Scalar.select, Ideal.cmp, h]

/-- The values the scales are taken from. -/
def amaxV (x : FVec Ideal S3072x7168 .bf16) (g : FVec Ideal S1x7168 .f32) : FVec Ideal S3072x1 .f32 :=
  mulf (shapeCast S3072x1 (multiReduction .maximumf [1] S3072 (absf (k0_pay4 (F := Ideal) x g)) 0xFF800000#32 reduces_S3072x7168_S3072 (.inl rfl) rfl) shapeCasts_S3072_S3072x1)
    (broadcast S3072x1 (Scalar.ofBits (F := Ideal) .f32 0x3B124925#32))

set_option backward.isDefEq.respectTransparency false in
theorem amaxV_apply (x : FVec Ideal S3072x7168 .bf16) (g : FVec Ideal S1x7168 .f32) (r : Fin 3072) :
    amaxV x g (ix2 r 0) = aRow (fun k => x (ix2 r k)) (fun k => g (ix2 0 k)) := by
  simp only [amaxV, mulf_apply, broadcast_apply, sc_col]
  rw [red_max]
  have e : ∀ k, absf (k0_pay4 (F := Ideal) x g) (ix2 r k) = max (hRow (fun k => x (ix2 r k)) (fun k => g (ix2 0 k)) k) (-(hRow (fun k => x (ix2 r k)) (fun k => g (ix2 0 k)) k)) :=
    fun k => by rw [← pay4_apply]; rfl
  simp only [e]
  rfl

/-- The exponents tried. -/
def tried : FVec Ideal S1x256 .f32 :=
  subf (sitofp (F := Ideal) .f32 (iota .tc S1x256 32 [1] iota_S1x256_d1_w32)) (broadcast S1x256 (Scalar.ofBits (F := Ideal) .f32 0x42FC0000#32))

theorem tried_apply (k : Fin 256) : tried (ix2 0 k) = (((k.val : ℝ) - 126 : ℝ) : EReal) := by
  unfold tried
  rw [subf_apply, sitofp_apply, iota_single_apply, broadcast_apply]
  show (((BitVec.ofNat 32 k.val).toInt : ℝ) : EReal) - Ideal.ofBits .f32 0x42FC0000#32 = _
  rw [ofBits_126, show (BitVec.ofNat 32 k.val).toInt = (k.val : ℤ) by
    rw [BitVec.toInt_ofNat']; have := k.isLt; simp only [Int.bmod]; omega, ← EReal.coe_sub]
  norm_cast

/-- One exponent tried against a value. -/
def trial (v : FVec Ideal S3072x1 .f32) : FVec Ideal S3072x256 .f32 :=
  select (cmpf .ole (broadcastTo S3072x256 (exp2 tried) broadcasts_S1x256_S3072x256) (broadcastTo S3072x256 v broadcasts_S3072x1_S3072x256))
    (broadcastTo S3072x256 (shapeCast S1x256 (addf tried (broadcast S1x256 (Scalar.ofBits (F := Ideal) .f32 0x3F800000#32))) shapeCasts_S1x256_S1x256) broadcasts_S1x256_S3072x256)
    (broadcast S3072x256 (Scalar.ofBits (F := Ideal) .f32 0xFF800000#32))

theorem trial_apply (v : FVec Ideal S3072x1 .f32) (r : Fin 3072) (k : Fin 256) :
    trial v (ix2 r k) = if Ideal.exp2 (((k.val : ℝ) - 126 : ℝ) : EReal) ≤ v (ix2 r 0) then (((k.val : ℝ) - 126 + 1 : ℝ) : EReal) else ⊥ := by
  unfold trial
  rw [select_apply, cmpf_apply, bc_row, bc_col, bc_row, shapeCast_self, addf_apply, broadcast_apply, broadcast_apply]
  rw [show exp2 tried (ix2 0 k) = Ideal.exp2 (tried (ix2 0 k)) from rfl, tried_apply]
  refine (select_le _ _ _ _).trans ?_
  rw [show (Scalar.ofBits (F := Ideal) .f32 0x3F800000#32 : EReal) = ((1 : ℝ) : EReal) from ofBits_one, ← EReal.coe_add,
    show (Scalar.ofBits (F := Ideal) .f32 0xFF800000#32 : EReal) = ⊥ from ofBits_neg_inf]

/-- The greatest that is not above the value, plus one; zero below the smallest normal. -/
def expTail (v : FVec Ideal S3072x1 .f32) : FVec Ideal S3072x1 .f32 :=
  select (cmpf .olt v (broadcast S3072x1 (Scalar.ofBits (F := Ideal) .f32 0x00800000#32))) (broadcast S3072x1 (Scalar.ofBits (F := Ideal) .f32 0x00000000#32))
    (shapeCast S3072x1 (multiReduction .maximumf [1] S3072 (trial v) 0xFF800000#32 reduces_S3072x256_S3072 (.inl rfl) rfl) shapeCasts_S3072_S3072x1)

set_option backward.isDefEq.respectTransparency false in
theorem expTail_apply (v : FVec Ideal S3072x1 .f32) (r : Fin 3072) : expTail v (ix2 r 0) = refE (v (ix2 r 0)) := by
  unfold expTail refE
  rw [select_apply, cmpf_apply, broadcast_apply, broadcast_apply, sc_col, red_max]
  simp only [trial_apply]
  refine (select_lt _ _ _ _).trans ?_
  rw [show (Scalar.ofBits (F := Ideal) .f32 0x00800000#32 : EReal) = pwB 1#32 from rfl,
    show (Scalar.ofBits (F := Ideal) .f32 0x00000000#32 : EReal) = 0 from Ideal.ofBits_zero_f32]

theorem pay5_eq (x : FVec Ideal S3072x7168 .bf16) (g : FVec Ideal S1x7168 .f32) : k0_pay5 (F := Ideal) x g = expTail (amaxV x g) := by
  unfold k0_pay5 expTail trial tried amaxV
  rfl

/-- The reference's exponent search, at a row's value. -/
theorem pay5_apply (x : FVec Ideal S3072x7168 .bf16) (g : FVec Ideal S1x7168 .f32) (r : Fin 3072) :
    k0_pay5 (F := Ideal) x g (ix2 r 0) = refE (aRow (fun k => x (ix2 r k)) (fun k => g (ix2 0 k))) := by
  rw [pay5_eq, expTail_apply, amaxV_apply]

theorem exp2_at (e : FVec Ideal S3072x1 .f32) (i : S3072x1.Idx) : exp2 e i = Ideal.exp2 (e i) := rfl

theorem pay6_apply (x : FVec Ideal S3072x7168 .bf16) (g : FVec Ideal S1x7168 .f32) (r : Fin 3072) :
    k0_pay6 (F := Ideal) x g (ix2 r 0) = scaleRow (fun k => x (ix2 r k)) (fun k => g (ix2 0 k)) := by
  unfold scaleRow refScale k0_pay6
  rw [exp2_at, pay5_apply]

theorem pay8_gen (h : FVec Ideal S3072x7168 .f32) (e : FVec Ideal S3072x1 .f32) (r : Fin 3072) (j : Fin 7168) :
    k0_pay8 (F := Ideal) h e (k0_pay7 (F := Ideal)) (ix2 r j)
      = min (Ideal.ofBits .f32 0x43E00000#32) (max (Ideal.ofBits .f32 0xC3E00000#32) (h (ix2 r j) * Ideal.exp2 (0 - e (ix2 r 0)))) := by
  simp only [k0_pay8, truncf_apply, minimumf_apply, maximumf_apply, mulf_apply, broadcast_apply, bc_col, exp2_at, subf_apply]
  rw [show k0_pay7 (F := Ideal) (ix2 r 0) = (0 : EReal) from Ideal.ofBits_zero_f32]
  rfl

theorem pay8_apply (x : FVec Ideal S3072x7168 .bf16) (g : FVec Ideal S1x7168 .f32) (r : Fin 3072) (j : Fin 7168) :
    k0_pay8 (F := Ideal) (k0_pay4 (F := Ideal) x g) (k0_pay5 (F := Ideal) x g) (k0_pay7 (F := Ideal)) (ix2 r j)
      = codeRow (fun k => x (ix2 r k)) (fun k => g (ix2 0 k)) j := by
  rw [pay8_gen, pay4_apply, pay5_apply]
  rfl

theorem lhsIdx_eq (i : Fin 3072) (o : Fin 6144) (k : Fin 7168) :
    dot_S3072x7168_S6144x7168_S3072x6144_1_1_0_0_n_n.lhsIdx (ix2 i o)
      ((contrEquiv1 dot_S3072x7168_S6144x7168_S3072x6144_1_1_0_0_n_n 7168 rfl rfl).symm k) = ix2 i k := by
  funext b
  match b with
  | ⟨0, _⟩ => rfl
  | ⟨1, _⟩ => exact Fin.ext (contrEquiv1_symm_val dot_S3072x7168_S6144x7168_S3072x6144_1_1_0_0_n_n 7168 rfl rfl k)

theorem rhsIdx_eq (i : Fin 3072) (o : Fin 6144) (k : Fin 7168) :
    dot_S3072x7168_S6144x7168_S3072x6144_1_1_0_0_n_n.rhsIdx (ix2 i o)
      ((contrEquiv1 dot_S3072x7168_S6144x7168_S3072x6144_1_1_0_0_n_n 7168 rfl rfl).symm k) = ix2 o k := by
  funext b
  match b with
  | ⟨0, _⟩ => rfl
  | ⟨1, _⟩ => exact Fin.ext (contrEquiv1_symm_val dot_S3072x7168_S6144x7168_S3072x6144_1_1_0_0_n_n 7168 rfl rfl k)

/-- The reference's projection of its quantised tokens. -/
def Y (x : FVec Ideal S3072x7168 .bf16) (g : FVec Ideal S1x7168 .f32) (w : FVec Ideal S6144x7168 .fp8e4m3) (ws : FVec Ideal S1x6144 .f32) : FVec Ideal S3072x6144 .f32 :=
  k0_pay9 (F := Ideal) (k0_pay4 (F := Ideal) x g) (k0_pay5 (F := Ideal) x g) (k0_pay6 (F := Ideal) x g) (k0_pay7 (F := Ideal)) w ws

theorem Y_apply (x : FVec Ideal S3072x7168 .bf16) (g : FVec Ideal S1x7168 .f32) (w : FVec Ideal S6144x7168 .fp8e4m3) (ws : FVec Ideal S1x6144 .f32)
    (i : Fin 3072) (o : Fin 6144) :
    Y x g w ws (ix2 i o) = yRow (fun k => x (ix2 i k)) (fun k => g (ix2 0 k)) (fun k => w (ix2 o k)) (ws (ix2 0 o)) := by
  unfold Y yRow
  simp only [k0_pay9, mulf_apply, bc_col, bc_row, shapeCast_self, pay6_apply]
  refine congrArg (fun z : EReal => z * scaleRow (fun k => x (ix2 i k)) (fun k => g (ix2 0 k)) * ws (ix2 0 o)) ?_
  refine (Ideal.matmul_constant_zero_apply dot_S3072x7168_S6144x7168_S3072x6144_1_1_0_0_n_n none _ w (ix2 i o)).trans ?_
  rw [← Equiv.sum_comp (contrEquiv1 dot_S3072x7168_S6144x7168_S3072x6144_1_1_0_0_n_n 7168 rfl rfl).symm]
  exact Finset.sum_congr rfl fun k _ => by rw [lhsIdx_eq, rhsIdx_eq, pay8_apply]

theorem pay10_apply (p : IVec S3072x1 32) (f : FVec Ideal S1x64 .f32) (i : Fin 3072) (d : Fin 64) :
    k0_pay10 (F := Ideal) p f (ix2 i d) = angle (p (ix2 i 0)) (f (ix2 0 d)) := by
  simp only [k0_pay10, mulf_apply, bc_col, bc_row, shapeCast_self, sitofp_apply]
  rfl

theorem pay11_apply (p : IVec S3072x1 32) (f : FVec Ideal S1x64 .f32) (i : Fin 3072) (d : Fin 64) :
    k0_pay11 (F := Ideal) p f (ix3 i 0 d) = Ideal.cos (angle (p (ix2 i 0)) (f (ix2 0 d))) := by
  rw [← pay10_apply]
  simp only [k0_pay11, sc_mid]
  rfl

theorem pay12_apply (p : IVec S3072x1 32) (f : FVec Ideal S1x64 .f32) (i : Fin 3072) (d : Fin 64) :
    k0_pay12 (F := Ideal) p f (ix3 i 0 d) = Ideal.sin (angle (p (ix2 i 0)) (f (ix2 0 d))) := by
  rw [← pay10_apply]
  simp only [k0_pay12, sc_mid]
  rfl

/-- The rotation of heads, lane by lane. -/
theorem pay2_apply (p : IVec S3072x1 32) (f : FVec Ideal S1x64 .f32) (v : FVec Ideal S3072x16x128 .f32) (i : Fin 3072) (h : Fin 16) (l : Fin 128) :
    k0_pay2 (F := Ideal) (k0_pay11 (F := Ideal) p f) (k0_pay12 (F := Ideal) p f) v (ix3 i h l)
      = rotLane (fun l => v (ix3 i h l)) (fun d => angle (p (ix2 i 0)) (f (ix2 0 d))) l := by
  unfold rotLane
  simp only [k0_pay2, truncf_apply]
  by_cases hl : l.val < 64
  · rw [dif_pos hl]
    refine (concatenate_pair_apply_left (s₁ := S3072x16x64) (s₂ := S3072x16x64) (2 : Fin S3072x16x128.rank) _ _ _ (ix3 i h l) rfl (ix3 i h ⟨l.val, hl⟩) ?_).trans ?_
    · intro b
      match b with
      | ⟨0, _⟩ => rfl
      | ⟨1, _⟩ => rfl
      | ⟨2, _⟩ => rfl
    · simp only [subf_apply, mulf_apply, bc_mid, pay11_apply, pay12_apply]
      rw [sl3 0 v _ i h ⟨l.val, hl⟩ l (by simp), sl3 64 v _ i h ⟨l.val, hl⟩ ⟨l.val + 64, by omega⟩ (by show l.val + 64 = 64 + l.val; omega)]
  · rw [dif_neg hl]
    refine (concatenate_pair_apply_right (s₁ := S3072x16x64) (s₂ := S3072x16x64) (2 : Fin S3072x16x128.rank) _ _ _ (ix3 i h l) rfl rfl (ix3 i h ⟨l.val - 64, by omega⟩) ?_ ?_).trans ?_
    · intro b hb
      match b with
      | ⟨0, _⟩ => rfl
      | ⟨1, _⟩ => rfl
      | ⟨2, _⟩ => exact absurd rfl hb
    · show l.val - 64 + 64 = l.val
      omega
    · simp only [addf_apply, mulf_apply, bc_mid, pay11_apply, pay12_apply]
      rw [sl3 64 v _ i h ⟨l.val - 64, by omega⟩ l (by show l.val = 64 + (l.val - 64); omega), sl3 0 v _ i h ⟨l.val - 64, by omega⟩ ⟨l.val - 64, by omega⟩ (by show l.val - 64 = 0 + (l.val - 64); omega)]

/-! ### The five results -/

/-- The heads a projection's columns from `o` hold. -/
theorem heads_apply (o : ℕ) (hs : S3072x6144.Slices ![0, o] S3072x2048) (y : FVec Ideal S3072x6144 .f32) (i : Fin 3072) (h : Fin 16) (l : Fin 128)
    (q : Fin 6144) (hq : q.val = o + (128 * h.val + l.val)) :
    shapeCast S3072x16x128 (extractStridedSlice S3072x2048 ![0, o] y hs) shapeCasts_S3072x2048_S3072x16x128 (ix3 i h l) = y (ix2 i q) := by
  refine (sc_heads _ _ rfl i h l ⟨128 * h.val + l.val, by omega⟩ (by show 128 * h.val + l.val = h.val * 128 + l.val; omega)).trans ?_
  exact sl2 o y hs i ⟨128 * h.val + l.val, by omega⟩ q hq

variable (x : FVec Ideal S3072x7168 .bf16) (g : FVec Ideal S1x7168 .f32) (w : FVec Ideal S6144x7168 .fp8e4m3) (ws : FVec Ideal S1x6144 .f32)
  (p : IVec S3072x1 32) (f : FVec Ideal S1x64 .f32)

/-- The five stored blocks, as the reference computes them from its six inputs. -/
def Q : FVec Ideal S3072x16x128 .bf16 :=
  k0_pay1 (F := Ideal) (k0_pay11 (F := Ideal) p f) (k0_pay12 (F := Ideal) p f)
    (k0_pay16 (F := Ideal) (k0_pay4 (F := Ideal) x g) (k0_pay5 (F := Ideal) x g) (k0_pay6 (F := Ideal) x g) (k0_pay7 (F := Ideal)) w ws)
    (k0_pay17 (F := Ideal) (k0_pay4 (F := Ideal) x g) (k0_pay5 (F := Ideal) x g) (k0_pay6 (F := Ideal) x g) (k0_pay7 (F := Ideal)) w ws)
    (k0_pay18 (F := Ideal) (k0_pay4 (F := Ideal) x g) (k0_pay5 (F := Ideal) x g) (k0_pay6 (F := Ideal) x g) (k0_pay7 (F := Ideal)) w ws p f)
    (k0_pay19 (F := Ideal) (k0_pay4 (F := Ideal) x g) (k0_pay5 (F := Ideal) x g) (k0_pay6 (F := Ideal) x g) (k0_pay7 (F := Ideal)) w ws p f)
def K : FVec Ideal S3072x16x128 .bf16 :=
  k0_pay2 (F := Ideal) (k0_pay11 (F := Ideal) p f) (k0_pay12 (F := Ideal) p f)
    (k0_pay14 (F := Ideal) (k0_pay4 (F := Ideal) x g) (k0_pay5 (F := Ideal) x g) (k0_pay6 (F := Ideal) x g) (k0_pay7 (F := Ideal)) w ws)
def V : FVec Ideal S3072x16x128 .bf16 :=
  k0_pay3 (F := Ideal) (k0_pay15 (F := Ideal) (k0_pay4 (F := Ideal) x g) (k0_pay5 (F := Ideal) x g) (k0_pay6 (F := Ideal) x g) (k0_pay7 (F := Ideal)) w ws)
def C : FVec Ideal S3072x7168 .fp8e4m3 :=
  k0_pay8 (F := Ideal) (k0_pay4 (F := Ideal) x g) (k0_pay5 (F := Ideal) x g) (k0_pay7 (F := Ideal))
def S : FVec Ideal S3072x1 .f32 := k0_pay6 (F := Ideal) x g

theorem rot_apply (o : ℕ) (ho : o + 2048 ≤ 6144) (hs : S3072x6144.Slices ![0, o] S3072x2048) (i : Fin 3072) (h : Fin 16) (l : Fin 128) :
    k0_pay2 (F := Ideal) (k0_pay11 (F := Ideal) p f) (k0_pay12 (F := Ideal) p f)
        (shapeCast S3072x16x128 (extractStridedSlice S3072x2048 ![0, o] (Y x g w ws) hs) shapeCasts_S3072x2048_S3072x16x128) (ix3 i h l)
      = rotLane (fun l => yRow (fun k => x (ix2 i k)) (fun k => g (ix2 0 k)) (fun k => w (ix2 ⟨o + (128 * h.val + l.val), by omega⟩ k)) (ws (ix2 0 ⟨o + (128 * h.val + l.val), by omega⟩)))
          (fun d => angle (p (ix2 i 0)) (f (ix2 0 d))) l := by
  rw [pay2_apply]
  refine congrArg (fun y => rotLane y _ l) (funext fun l => ?_)
  rw [heads_apply o hs _ i h l ⟨o + (128 * h.val + l.val), by omega⟩ rfl, Y_apply]

theorem Q_apply (i : Fin 3072) (h : Fin 16) (l : Fin 128) :
    Q x g w ws p f (ix3 i h l)
      = rotLane (fun l => yRow (fun k => x (ix2 i k)) (fun k => g (ix2 0 k)) (fun k => w (ix2 ⟨0 + (128 * h.val + l.val), by omega⟩ k)) (ws (ix2 0 ⟨0 + (128 * h.val + l.val), by omega⟩)))
          (fun d => angle (p (ix2 i 0)) (f (ix2 0 d))) l := by
  rw [← rot_apply x g w ws p f 0 (by omega) slices_S3072x6144_o0_0_S3072x2048 i h l]
  unfold Q Y k0_pay19 k0_pay18 k0_pay17 k0_pay16 k0_pay13
  generalize k0_pay9 (F := Ideal) _ _ _ _ w ws = y
  generalize k0_pay11 (F := Ideal) p f = c
  generalize k0_pay12 (F := Ideal) p f = s
  rfl

theorem K_apply (i : Fin 3072) (h : Fin 16) (l : Fin 128) :
    K x g w ws p f (ix3 i h l)
      = rotLane (fun l => yRow (fun k => x (ix2 i k)) (fun k => g (ix2 0 k)) (fun k => w (ix2 ⟨2048 + (128 * h.val + l.val), by omega⟩ k)) (ws (ix2 0 ⟨2048 + (128 * h.val + l.val), by omega⟩)))
          (fun d => angle (p (ix2 i 0)) (f (ix2 0 d))) l := by
  rw [← rot_apply x g w ws p f 2048 (by omega) slices_S3072x6144_o0_2048_S3072x2048 i h l]
  unfold K Y k0_pay14
  generalize k0_pay9 (F := Ideal) _ _ _ _ w ws = y
  rfl

theorem V_apply (i : Fin 3072) (h : Fin 16) (l : Fin 128) :
    V x g w ws (ix3 i h l)
      = yRow (fun k => x (ix2 i k)) (fun k => g (ix2 0 k)) (fun k => w (ix2 ⟨4096 + (128 * h.val + l.val), by omega⟩ k)) (ws (ix2 0 ⟨4096 + (128 * h.val + l.val), by omega⟩)) := by
  rw [← Y_apply, ← heads_apply 4096 slices_S3072x6144_o0_4096_S3072x2048 (Y x g w ws) i h l ⟨4096 + (128 * h.val + l.val), by omega⟩ rfl]
  unfold V Y k0_pay15 k0_pay3
  generalize k0_pay9 (F := Ideal) _ _ _ _ w ws = y
  rfl

end Cert.ReferenceIdeal.Val

end
-- ==== Proof.RArr.lean ====
/-
  The reference's result arrays at the ideal values: its one grid point writes every result whole.
-/
module

public import proofs.«01_k».proof.Proof.RVal
public import proofs.«01_k».proof.Proof.Gen.ReferenceIdeal.Frame
public import Idealize.ShloMosaic.Lib.Pipeline.Value

@[expose] public section

set_option maxRecDepth 16384

noncomputable section

namespace Cert.ReferenceIdeal.Val

open Idealize.ShloMosaic Idealize.ShloMosaic.TcCoe
open Cert.ReferenceIdeal Cert.ReferenceIdeal.Gen Cert.Spec
open Idealize.ShloMosaic.ValueIdx
open Idealize.ShloMosaic.Pipeline (Dat Window)

theorem hz2 : (![0, 0] : Fin 2 → Nat) = fun _ => 0 := funext fun a => by fin_cases a <;> rfl
theorem hz3 : (![0, 0, 0] : Fin 3 → Nat) = fun _ => 0 := funext fun a => by fin_cases a <;> rfl

/-! ### What the body stores, of the blocks it loads whole -/

section
variable (x : Vec Ideal S3072x7168 .bf16) (p : Vec Ideal S3072x1 .i32) (g : Vec Ideal S1x7168 .f32) (f : Vec Ideal S1x64 .f32)
  (w : Vec Ideal S6144x7168 .fp8e4m3) (ws : Vec Ideal S1x6144 .f32)

theorem ld0 : View.ld x r0_0 = x := View.ld_unit_zero hz2 _ x
theorem ld1 : View.ld g r0_1 = g := View.ld_unit_zero hz2 _ g
theorem ld2 : View.ld p r0_2 = p := View.ld_unit_zero hz2 _ p
theorem ld3 : View.ld w r0_3 = w := View.ld_unit_zero hz2 _ w
theorem ld4 : View.ld ws r0_4 = ws := View.ld_unit_zero hz2 _ ws
theorem ld5 : View.ld f r0_5 = f := View.ld_unit_zero hz2 _ f

theorem out6_eq : out0_6 x p g f w ws = Q x g w ws p f := by
  unfold out0_6
  rw [View.canon_unit_zero hz3]
  simp only [k0_pay20, k0_pay21, k0_pay22, k0_pay23, k0_pay24, k0_pay25, ld0, ld1, ld2, ld3, ld4, ld5]
  unfold Q
  rfl

theorem out7_eq : out0_7 x p g f w ws = K x g w ws p f := by
  unfold out0_7
  rw [View.canon_unit_zero hz3]
  simp only [k0_pay20, k0_pay21, k0_pay22, k0_pay23, k0_pay24, k0_pay25, ld0, ld1, ld2, ld3, ld4, ld5]
  unfold K
  rfl

theorem out8_eq : out0_8 x p g f w ws = V x g w ws := by
  unfold out0_8
  rw [View.canon_unit_zero hz3]
  simp only [k0_pay20, k0_pay21, k0_pay22, k0_pay23, k0_pay24, k0_pay25, ld0, ld1, ld2, ld3, ld4, ld5]
  unfold V
  rfl

theorem out9_eq : out0_9 x p g f w ws = C x g := by
  unfold out0_9
  rw [View.canon_unit_zero hz2]
  simp only [k0_pay20, k0_pay21, k0_pay22, k0_pay23, k0_pay24, k0_pay25, ld0, ld1, ld2, ld3, ld4, ld5]
  unfold C
  rfl

theorem out10_eq : out0_10 x p g f w ws = S x g := by
  unfold out0_10
  rw [View.canon_unit_zero hz2]
  simp only [k0_pay20, k0_pay21, k0_pay22, k0_pay23, k0_pay24, k0_pay25, ld0, ld1, ld2, ld3, ld4, ld5]
  unfold S
  rfl

end

variable (m : (ℓ : Loc nD τ sig) → Buf (Elt Ideal) ℓ) (c : Dev nD)

/-! ### Every window's block is its whole array -/

theorem at0 : ∀ (t : Fin cfg0.N) (a : Fin 2), win0_0.index t a = 0 :=
  (by decide +kernel : ∀ (t : Fin grid0.N) (a : Fin 2), win0_0.index t a = 0)
theorem at1 : ∀ (t : Fin cfg0.N) (a : Fin 2), win0_1.index t a = 0 :=
  (by decide +kernel : ∀ (t : Fin grid0.N) (a : Fin 2), win0_1.index t a = 0)
theorem at2 : ∀ (t : Fin cfg0.N) (a : Fin 2), win0_2.index t a = 0 :=
  (by decide +kernel : ∀ (t : Fin grid0.N) (a : Fin 2), win0_2.index t a = 0)
theorem at3 : ∀ (t : Fin cfg0.N) (a : Fin 2), win0_3.index t a = 0 :=
  (by decide +kernel : ∀ (t : Fin grid0.N) (a : Fin 2), win0_3.index t a = 0)
theorem at4 : ∀ (t : Fin cfg0.N) (a : Fin 2), win0_4.index t a = 0 :=
  (by decide +kernel : ∀ (t : Fin grid0.N) (a : Fin 2), win0_4.index t a = 0)
theorem at5 : ∀ (t : Fin cfg0.N) (a : Fin 2), win0_5.index t a = 0 :=
  (by decide +kernel : ∀ (t : Fin grid0.N) (a : Fin 2), win0_5.index t a = 0)
theorem at6 : ∀ (t : Fin cfg0.N) (a : Fin 3), win0_6.index t a = 0 :=
  (by decide +kernel : ∀ (t : Fin grid0.N) (a : Fin 3), win0_6.index t a = 0)
theorem at7 : ∀ (t : Fin cfg0.N) (a : Fin 3), win0_7.index t a = 0 :=
  (by decide +kernel : ∀ (t : Fin grid0.N) (a : Fin 3), win0_7.index t a = 0)
theorem at8 : ∀ (t : Fin cfg0.N) (a : Fin 3), win0_8.index t a = 0 :=
  (by decide +kernel : ∀ (t : Fin grid0.N) (a : Fin 3), win0_8.index t a = 0)
theorem at9 : ∀ (t : Fin cfg0.N) (a : Fin 2), win0_9.index t a = 0 :=
  (by decide +kernel : ∀ (t : Fin grid0.N) (a : Fin 2), win0_9.index t a = 0)
theorem at10 : ∀ (t : Fin cfg0.N) (a : Fin 2), win0_10.index t a = 0 :=
  (by decide +kernel : ∀ (t : Fin grid0.N) (a : Fin 2), win0_10.index t a = 0)

theorem in0 (t : Fin cfg0.N) : iblk m c 0 t = Gen.V m c main_v10 := by
  funext y
  show Gen.V m c main_v10 ((win0_0.rect t).emb y) = Gen.V m c main_v10 y
  exact congrArg (Gen.V m c main_v10) (funext fun a => Fin.ext (Window.rect_emb_val_of_index_zero win0_0 t a (at0 t a) y))

theorem in1 (t : Fin cfg0.N) : iblk m c 1 t = Gen.V m c main_v11 := by
  funext y
  show Gen.V m c main_v11 ((win0_1.rect t).emb y) = Gen.V m c main_v11 y
  exact congrArg (Gen.V m c main_v11) (funext fun a => Fin.ext (Window.rect_emb_val_of_index_zero win0_1 t a (at1 t a) y))

theorem in2 (t : Fin cfg0.N) : iblk m c 2 t = Gen.V m c main_v12 := by
  funext y
  show Gen.V m c main_v12 ((win0_2.rect t).emb y) = Gen.V m c main_v12 y
  exact congrArg (Gen.V m c main_v12) (funext fun a => Fin.ext (Window.rect_emb_val_of_index_zero win0_2 t a (at2 t a) y))

theorem in3 (t : Fin cfg0.N) : iblk m c 3 t = Gen.V m c main_v13 := by
  funext y
  show Gen.V m c main_v13 ((win0_3.rect t).emb y) = Gen.V m c main_v13 y
  exact congrArg (Gen.V m c main_v13) (funext fun a => Fin.ext (Window.rect_emb_val_of_index_zero win0_3 t a (at3 t a) y))

theorem in4 (t : Fin cfg0.N) : iblk m c 4 t = Gen.V m c main_arg3 := by
  funext y
  show Gen.V m c main_arg3 ((win0_4.rect t).emb y) = Gen.V m c main_arg3 y
  exact congrArg (Gen.V m c main_arg3) (funext fun a => Fin.ext (Window.rect_emb_val_of_index_zero win0_4 t a (at4 t a) y))

theorem in5 (t : Fin cfg0.N) : iblk m c 5 t = Gen.V m c main_v14 := by
  funext y
  show Gen.V m c main_v14 ((win0_5.rect t).emb y) = Gen.V m c main_v14 y
  exact congrArg (Gen.V m c main_v14) (funext fun a => Fin.ext (Window.rect_emb_val_of_index_zero win0_5 t a (at5 t a) y))

/-! ### The result arrays -/

theorem whole6 (G : Vec Ideal S3072x16x128 .bf16) (hG : ∀ t, (dats m 0 c).after 6 t = G) : (dats m 0 c).arrAt 6 cfg0.N = G := by
  have he : ∀ (t : Fin cfg0.N) (y : (win0_6.xblock (grid0.coords t)).Idx), (win0_6.rect t).emb y = y :=
    fun t y => funext fun a => Fin.ext (Window.rect_emb_val_of_index_zero win0_6 t a (at6 t a) y)
  refine (dats m 0 c).arrAt_eq_of_cover 6 G (fun t _ => ?_) (fun y => ⟨t0_0, flush0_6 t0_0, ?_⟩)
  · funext y
    show (dats m 0 c).after 6 t y = G ((win0_6.rect t).emb y)
    rw [hG]
    exact congrArg G (he t y).symm
  · rw [← he t0_0 y]
    exact ((cfg0.win 6).blk t0_0).view.emb_mem_set y

theorem arr6 : (dats m 0 c).arrAt 6 cfg0.N = Q (Gen.V m c main_v10) (Gen.V m c main_v12) (Gen.V m c main_arg3) (Gen.V m c main_v14) (Gen.V m c main_v11) (Gen.V m c main_v13) :=
  whole6 m c _ fun t => by
    rw [after0_6, out6_eq, in0, in1, in2, in3, in4, in5]

theorem whole7 (G : Vec Ideal S3072x16x128 .bf16) (hG : ∀ t, (dats m 0 c).after 7 t = G) : (dats m 0 c).arrAt 7 cfg0.N = G := by
  have he : ∀ (t : Fin cfg0.N) (y : (win0_7.xblock (grid0.coords t)).Idx), (win0_7.rect t).emb y = y :=
    fun t y => funext fun a => Fin.ext (Window.rect_emb_val_of_index_zero win0_7 t a (at7 t a) y)
  refine (dats m 0 c).arrAt_eq_of_cover 7 G (fun t _ => ?_) (fun y => ⟨t0_0, flush0_7 t0_0, ?_⟩)
  · funext y
    show (dats m 0 c).after 7 t y = G ((win0_7.rect t).emb y)
    rw [hG]
    exact congrArg G (he t y).symm
  · rw [← he t0_0 y]
    exact ((cfg0.win 7).blk t0_0).view.emb_mem_set y

theorem arr7 : (dats m 0 c).arrAt 7 cfg0.N = K (Gen.V m c main_v10) (Gen.V m c main_v12) (Gen.V m c main_arg3) (Gen.V m c main_v14) (Gen.V m c main_v11) (Gen.V m c main_v13) :=
  whole7 m c _ fun t => by
    rw [after0_7, out7_eq, in0, in1, in2, in3, in4, in5]

theorem whole8 (G : Vec Ideal S3072x16x128 .bf16) (hG : ∀ t, (dats m 0 c).after 8 t = G) : (dats m 0 c).arrAt 8 cfg0.N = G := by
  have he : ∀ (t : Fin cfg0.N) (y : (win0_8.xblock (grid0.coords t)).Idx), (win0_8.rect t).emb y = y :=
    fun t y => funext fun a => Fin.ext (Window.rect_emb_val_of_index_zero win0_8 t a (at8 t a) y)
  refine (dats m 0 c).arrAt_eq_of_cover 8 G (fun t _ => ?_) (fun y => ⟨t0_0, flush0_8 t0_0, ?_⟩)
  · funext y
    show (dats m 0 c).after 8 t y = G ((win0_8.rect t).emb y)
    rw [hG]
    exact congrArg G (he t y).symm
  · rw [← he t0_0 y]
    exact ((cfg0.win 8).blk t0_0).view.emb_mem_set y

theorem arr8 : (dats m 0 c).arrAt 8 cfg0.N = V (Gen.V m c main_v10) (Gen.V m c main_v12) (Gen.V m c main_arg3) (Gen.V m c main_v14) :=
  whole8 m c _ fun t => by
    rw [after0_8, out8_eq, in0, in2, in4, in5]

theorem whole9 (G : Vec Ideal S3072x7168 .fp8e4m3) (hG : ∀ t, (dats m 0 c).after 9 t = G) : (dats m 0 c).arrAt 9 cfg0.N = G := by
  have he : ∀ (t : Fin cfg0.N) (y : (win0_9.xblock (grid0.coords t)).Idx), (win0_9.rect t).emb y = y :=
    fun t y => funext fun a => Fin.ext (Window.rect_emb_val_of_index_zero win0_9 t a (at9 t a) y)
  refine (dats m 0 c).arrAt_eq_of_cover 9 G (fun t _ => ?_) (fun y => ⟨t0_0, flush0_9 t0_0, ?_⟩)
  · funext y
    show (dats m 0 c).after 9 t y = G ((win0_9.rect t).emb y)
    rw [hG]
    exact congrArg G (he t y).symm
  · rw [← he t0_0 y]
    exact ((cfg0.win 9).blk t0_0).view.emb_mem_set y

theorem arr9 : (dats m 0 c).arrAt 9 cfg0.N = C (Gen.V m c main_v10) (Gen.V m c main_v12) :=
  whole9 m c _ fun t => by
    rw [after0_9, out9_eq, in0, in2]

theorem whole10 (G : Vec Ideal S3072x1 .f32) (hG : ∀ t, (dats m 0 c).after 10 t = G) : (dats m 0 c).arrAt 10 cfg0.N = G := by
  have he : ∀ (t : Fin cfg0.N) (y : (win0_10.xblock (grid0.coords t)).Idx), (win0_10.rect t).emb y = y :=
    fun t y => funext fun a => Fin.ext (Window.rect_emb_val_of_index_zero win0_10 t a (at10 t a) y)
  refine (dats m 0 c).arrAt_eq_of_cover 10 G (fun t _ => ?_) (fun y => ⟨t0_0, flush0_10 t0_0, ?_⟩)
  · funext y
    show (dats m 0 c).after 10 t y = G ((win0_10.rect t).emb y)
    rw [hG]
    exact congrArg G (he t y).symm
  · rw [← he t0_0 y]
    exact ((cfg0.win 10).blk t0_0).view.emb_mem_set y

theorem arr10 : (dats m 0 c).arrAt 10 cfg0.N = S (Gen.V m c main_v10) (Gen.V m c main_v12) :=
  whole10 m c _ fun t => by
    rw [after0_10, out10_eq, in0, in2]

end Cert.ReferenceIdeal.Val

end
-- ==== Proof.Host.lean ====
/-
  The arrays both programs' host lines hand to their kernels: the same arguments reshaped, and the same frequencies.
-/
module

public import proofs.«01_k».proof.Proof.KArr
public import proofs.«01_k».proof.Proof.RArr
public import Idealize.ShloMosaic.Lib.Claim

@[expose] public section

set_option maxRecDepth 16384

noncomputable section

namespace Cert.Spec

open Idealize.ShloMosaic Idealize.ShloMosaic.TcCoe
open Idealize.ShloMosaic.ValueIdx

variable (m : (ℓ : Loc KernelIdeal.nD KernelIdeal.τ KernelIdeal.sig) → Buf (Elt Ideal) ℓ) (c : Dev KernelIdeal.nD)
  (m' : (ℓ : Loc ReferenceIdeal.nD ReferenceIdeal.τ ReferenceIdeal.sig) → Buf (Elt Ideal) ℓ)

theorem x_eq (h : m' ((c.tc : Thread ReferenceIdeal.nD ReferenceIdeal.τ).loc ReferenceIdeal.main_arg0) = m ((c.tc : Thread KernelIdeal.nD KernelIdeal.τ).loc KernelIdeal.main_arg0)) :
    ReferenceIdeal.Gen.V m' c ReferenceIdeal.main_v10 = KernelIdeal.Val.aX m c := by
  unfold KernelIdeal.Val.aX
  entry_read
  rw [h]
  rfl

theorem p_eq (h : m' ((c.tc : Thread ReferenceIdeal.nD ReferenceIdeal.τ).loc ReferenceIdeal.main_arg1) = m ((c.tc : Thread KernelIdeal.nD KernelIdeal.τ).loc KernelIdeal.main_arg1)) :
    ReferenceIdeal.Gen.V m' c ReferenceIdeal.main_v11 = KernelIdeal.Val.aP m c := by
  unfold KernelIdeal.Val.aP
  entry_read
  rw [h]
  rfl

theorem g_eq (h : m' ((c.tc : Thread ReferenceIdeal.nD ReferenceIdeal.τ).loc ReferenceIdeal.main_arg2) = m ((c.tc : Thread KernelIdeal.nD KernelIdeal.τ).loc KernelIdeal.main_arg2)) :
    ReferenceIdeal.Gen.V m' c ReferenceIdeal.main_v12 = KernelIdeal.Val.aG m c := by
  unfold KernelIdeal.Val.aG
  entry_read
  rw [h]
  rfl

theorem w_eq (h : m' ((c.tc : Thread ReferenceIdeal.nD ReferenceIdeal.τ).loc ReferenceIdeal.main_arg3) = m ((c.tc : Thread KernelIdeal.nD KernelIdeal.τ).loc KernelIdeal.main_arg3)) :
    ReferenceIdeal.Gen.V m' c ReferenceIdeal.main_arg3 = KernelIdeal.Val.aW m c := by
  unfold KernelIdeal.Val.aW
  entry_read
  exact h

theorem s_eq (h : m' ((c.tc : Thread ReferenceIdeal.nD ReferenceIdeal.τ).loc ReferenceIdeal.main_arg4) = m ((c.tc : Thread KernelIdeal.nD KernelIdeal.τ).loc KernelIdeal.main_arg4)) :
    ReferenceIdeal.Gen.V m' c ReferenceIdeal.main_v14 = KernelIdeal.Val.aS m c := by
  unfold KernelIdeal.Val.aS
  entry_read
  rw [h]
  rfl

/-- The gain's entries are the argument's. -/
theorem g_apply (j : Fin 7168) : KernelIdeal.Val.aG m c (ix2 0 j) = m ((c.tc : Thread KernelIdeal.nD KernelIdeal.τ).loc KernelIdeal.main_arg2) (ix1 j) := by
  unfold KernelIdeal.Val.aG
  entry_read
  refine (shapeCast_apply (t := KernelIdeal.S1x7168) _ _ (ix2 0 j) (ix1 j) ?_)
  rw [rm1, show (KernelIdeal.S1x7168.rowMajor (ix2 0 j)).val = 0 * 7168 + j.val from rm2 (0 : Fin 1) j]
  omega

/-- The half table of frequencies. -/
def freq : FVec Ideal KernelIdeal.S64 .f32 := KernelIdeal.Gen.V m c KernelIdeal.main_v9

theorem freq_eq : ReferenceIdeal.Gen.V m' c ReferenceIdeal.main_v9 = freq m c := by
  unfold freq
  entry_read
  rfl

theorem f_cat : KernelIdeal.Val.aF m c
    = shapeCast KernelIdeal.S1x128 (concatenate KernelIdeal.S128 0 [⟨KernelIdeal.S64, freq m c⟩, ⟨KernelIdeal.S64, freq m c⟩] KernelIdeal.Facts₀.concatenates_S64_S64_S128_d0)
        KernelIdeal.Facts₀.shapeCasts_S128_S1x128 := by
  unfold KernelIdeal.Val.aF freq
  entry_read
  rfl

/-- The kernel's table of frequencies is the half table twice. -/
theorem f_apply (l : Fin 128) : KernelIdeal.Val.aF m c (ix2 0 l) = freq m c (ix1 ⟨l.val % 64, by omega⟩) := by
  rw [f_cat]
  refine (shapeCast_apply (t := KernelIdeal.S1x128) _ _ (ix2 0 l) (ix1 l) ?_).trans ?_
  · rw [rm1, show (KernelIdeal.S1x128.rowMajor (ix2 0 l)).val = 0 * 128 + l.val from rm2 (0 : Fin 1) l]
    omega
  by_cases hl : l.val < 64
  · refine concatenate_pair_apply_left (s₁ := KernelIdeal.S64) (s₂ := KernelIdeal.S64) _ _ _ _ (ix1 l) rfl (ix1 ⟨l.val % 64, by omega⟩) (fun b => ?_)
    match b with
    | ⟨0, _⟩ => show l.val % 64 = l.val; omega
  · refine concatenate_pair_apply_right (s₁ := KernelIdeal.S64) (s₂ := KernelIdeal.S64) _ _ _ _ (ix1 l) rfl rfl (ix1 ⟨l.val % 64, by omega⟩) (fun b hb => ?_) ?_
    · match b with
      | ⟨0, _⟩ => exact absurd rfl hb
    · show l.val % 64 + 64 = l.val; omega

theorem twice : KernelIdeal.Val.Twice m c := fun l => by
  rw [f_apply, f_apply]
  exact congrArg (freq m c) (congrArg ix1 (Fin.ext (by show l.val % 64 = l.val % 64 % 64; omega)))

theorem f_row : ReferenceIdeal.Gen.V m' c ReferenceIdeal.main_v13
    = shapeCast ReferenceIdeal.S1x64 (ReferenceIdeal.Gen.V m' c ReferenceIdeal.main_v9) ReferenceIdeal.Facts₀.shapeCasts_S64_S1x64 := by
  entry_read
  rfl

/-- The reference's frequencies are the first half of the kernel's. -/
theorem f_half (d : Fin 64) : ReferenceIdeal.Gen.V m' c ReferenceIdeal.main_v13 (ix2 0 d) = KernelIdeal.Val.aF m c (ix2 0 ⟨d.val, by omega⟩) := by
  rw [f_row, f_apply, freq_eq m c m']
  refine (shapeCast_apply (t := ReferenceIdeal.S1x64) _ _ (ix2 0 d) (ix1 d) ?_).trans ?_
  · rw [rm1, show (ReferenceIdeal.S1x64.rowMajor (ix2 0 d)).val = 0 * 64 + d.val from rm2 (0 : Fin 1) d]
    omega
  · exact congrArg (freq m c) (congrArg ix1 (Fin.ext (by show d.val = d.val % 64; omega)))

end Cert.Spec

end
-- ==== Proof.KRunA.lean ====
/-
  The body at the first point of a row of blocks: it writes the tables, quantises the rows and does the first query block.
-/
module

public import proofs.«01_k».proof.Proof.KBlocks
public import proofs.«01_k».proof.Proof.Gen.KernelIdeal.Loops
public import Idealize.ShloMosaic.Lib.Claim

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- (the run's proof term is large: checking it walks past the default budget)
set_option maxHeartbeats 1000000 in
/-- The body at the first point of a row of blocks: it writes the tables, quantises the rows and does the first query block. Every buffer is held at contents named before and after. -/
theorem run0_A (c : Dev nD) (i : grid0.Coords) (arg2 : Memref sig .tc .vmem S512x7168 .bf16) (harg2 : arg2.IsWhole) (arg3 : Memref sig .tc .vmem S512x1 .i32) (harg3 : arg3.IsWhole) (arg4 : Memref sig .tc .vmem S1x7168 .f32) (harg4 : arg4.IsWhole) (arg5 : Memref sig .tc .vmem S1x128 .f32) (harg5 : arg5.IsWhole) (arg6 : Memref sig .tc .vmem S1024x7168 .fp8e4m3) (harg6 : arg6.IsWhole) (arg7 : Memref sig .tc .vmem S1x1024 .f32) (harg7 : arg7.IsWhole) (arg8 : Memref sig .tc .vmem S512x8x128 .bf16) (harg8 : arg8.IsWhole) (arg9 : Memref sig .tc .vmem S512x8x128 .bf16) (harg9 : arg9.IsWhole) (arg10 : Memref sig .tc .vmem S512x8x128 .bf16) (harg10 : arg10.IsWhole) (arg11 : Memref sig .tc .vmem S512x7168 .fp8e4m3) (harg11 : arg11.IsWhole) (arg12 : Memref sig .tc .vmem S512x1 .f32) (harg12 : arg12.IsWhole) (arg13 : Memref sig .tc .vmem S512x128 .f32) (harg13 : arg13.IsWhole) (arg14 : Memref sig .tc .vmem S512x128 .f32) (harg14 : arg14.IsWhole) (hc0 : cond0_0 i) (hc1 : cond0_1 i) (hc2 : ¬cond0_2 i) (hc3 : ¬cond0_3 i)
    (x0 : Vec F S512x7168 .bf16) (x1 : Vec F S512x1 .i32) (x2 : Vec F S1x7168 .f32) (x3 : Vec F S1x128 .f32) (x4 : Vec F S1024x7168 .fp8e4m3) (x5 : Vec F S1x1024 .f32) (d6 : Vec F S512x8x128 .bf16) (d7 : Vec F S512x8x128 .bf16) (d8 : Vec F S512x8x128 .bf16) (d9 : Vec F S512x7168 .fp8e4m3) (d10 : Vec F S512x1 .f32) (s0 : Vec F S512x128 .f32) (s1 : Vec F S512x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7 ∗ owns (c : Thread nD τ) arg10 fullShare d8 ∗ owns (c : Thread nD τ) arg11 fullShare d9 ∗ owns (c : Thread nD τ) arg12 fullShare d10 ∗ owns (c : Thread nD τ) arg13 fullShare s0 ∗ owns (c : Thread nD τ) arg14 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (QF (CODES x0 x2) x4 (SCALE x0 x2) x5 (COS x1 x3) (SIN x1 x3)) ∗ owns (c : Thread nD τ) arg9 fullShare d7 ∗ owns (c : Thread nD τ) arg10 fullShare d8 ∗ owns (c : Thread nD τ) arg11 fullShare (CODES x0 x2) ∗ owns (c : Thread nD τ) arg12 fullShare (SCALE x0 x2) ∗ owns (c : Thread nD τ) arg13 fullShare (COS x1 x3) ∗ owns (c : Thread nD τ) arg14 fullShare (SIN x1 x3)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K := by
    intro E K
    simp only [cc0__body_eq_skeleton]; unfold cc0__body_skel
    simp only [k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0; obtain rfl := harg14.eq_unread hfs1
    sl_exec (disch := first | sl_exact hc0 | sl_exact hc1 | sl_exact hc2 | sl_exact hc3)
    sl_step
    iapply Hk
    isplitl [H0]
    · iexists _; isplitr; swap; · iexact H0
      ipureintro
      exact harg2.read_unread _
    isplitl [H1]
    · iexists _; isplitr; swap; · iexact H1
      ipureintro
      exact harg3.read_unread _
    isplitl [H2]
    · iexists _; isplitr; swap; · iexact H2
      ipureintro
      exact harg4.read_unread _
    isplitl [H3]
    · iexists _; isplitr; swap; · iexact H3
      ipureintro
      exact harg5.read_unread _
    isplitl [H4]
    · iexists _; isplitr; swap; · iexact H4
      ipureintro
      exact harg6.read_unread _
    isplitl [H5]
    · iexists _; isplitr; swap; · iexact H5
      ipureintro
      exact harg7.read_unread _
    isplitl [H6]
    · iexists _; isplitr; swap; · iexact H6
      ipureintro
      have e11 : View.readAt (Elt F) arg11.view (Rect.unit (s := S512x7168) ![0, 0] S512x7168.size inb_S512x7168_S512x7168_0_0).toLoadRect (arg11.view.writes (Elt F) (harg11.unread d9) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 hc0 (harg2.unread x0) (harg4.unread x2) (Scf.trips k0_t1_loop.lb k0_t1_loop.ub k0_t1_loop.st)).1) = CODES x0 x2 := (View.readAt_full _ _ _).trans (by rw [read_codes, hf0, hf2])
      have e12 : View.readAt (Elt F) arg12.view (Rect.unit (s := S512x1) ![0, 0] S512x1.size inb_S512x1_S512x1_0_0).toLoadRect (arg12.view.writes (Elt F) (harg12.unread d10) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 hc0 (harg2.unread x0) (harg4.unread x2) (Scf.trips k0_t1_loop.lb k0_t1_loop.ub k0_t1_loop.st)).2) = SCALE x0 x2 := (View.readAt_full _ _ _).trans (by rw [read_scales, hf0, hf2])
      have e6 : View.readAt (Elt F) arg6.view (Rect.unit (s := S1024x7168) ![0, 0] S1024x7168.size inb_S1024x7168_S1024x7168_0_0).toLoadRect (harg6.unread x4) = x4 := (View.readAt_full _ _ _).trans hf4
      have e7 : View.readAt (Elt F) arg7.view (Rect.unit (s := S1x1024) ![0, 0] S1x1024.size inb_S1x1024_S1x1024_0_0).toLoadRect (harg7.unread x5) = x5 := (View.readAt_full _ _ _).trans hf5
      have e3 : View.readAt (Elt F) arg3.view (Rect.unit (s := S512x1) ![0, 0] S512x1.size inb_S512x1_S512x1_0_0).toLoadRect (harg3.unread x1) = x1 := (View.readAt_full _ _ _).trans hf1
      have e5 : View.readAt (Elt F) arg5.view (Rect.unit (s := S1x128) ![0, 0] S1x128.size inb_S1x128_S1x128_0_0).toLoadRect (harg5.unread x3) = x3 := (View.readAt_full _ _ _).trans hf3
      have e13 : arg13.view.readCov (run0_A.sl.HS0_1 c arg3 harg3 arg5 harg5 x1 x3) (Rect.unit (s := S512x128) ![0, 0] S512x128.size inb_S512x128_S512x128_0_0).toLoadRect = COS x1 x3 := by
        refine (View.readCov_full arg13.view _ _ _ _).trans ?_
        rw [e3, e5]; rfl
      have e14 : arg14.view.readCov (run0_A.sl.HS1_1 c arg3 harg3 arg5 harg5 x1 x3) (Rect.unit (s := S512x128) ![0, 0] S512x128.size inb_S512x128_S512x128_0_0).toLoadRect = SIN x1 x3 := by
        refine (View.readCov_full arg14.view _ _ _ _).trans ?_
        rw [e3, e5]; rfl
      refine (View.read_writes_full arg8.view _ _ _ _).trans ?_
      conv_rhs => rw [← e11, ← e12, ← e6, ← e7, ← e13, ← e14]
      rfl
    isplitl [H7]
    · iexists _; isplitr; swap; · iexact H7
      ipureintro
      exact harg9.read_unread _
    isplitl [H8]
    · iexists _; isplitr; swap; · iexact H8
      ipureintro
      exact harg10.read_unread _
    isplitl [H9]
    · iexists _; isplitr; swap; · iexact H9
      ipureintro
      rw [read_codes, hf0, hf2]
    isplitl [H10]
    · iexists _; isplitr; swap; · iexact H10
      ipureintro
      rw [read_scales, hf0, hf2]
    isplitl [HS0]
    · iexists _; isplitr; swap; · iexact HS0
      ipureintro
      have e3 : View.readAt (Elt F) arg3.view (Rect.unit (s := S512x1) ![0, 0] S512x1.size inb_S512x1_S512x1_0_0).toLoadRect (harg3.unread x1) = x1 := (View.readAt_full _ _ _).trans hf1
      have e5 : View.readAt (Elt F) arg5.view (Rect.unit (s := S1x128) ![0, 0] S1x128.size inb_S1x128_S1x128_0_0).toLoadRect (harg5.unread x3) = x3 := (View.readAt_full _ _ _).trans hf3
      refine (View.read_writes_full arg13.view _ _ _ _).trans ?_
      rw [e3, e5]; rfl
    iexists _; isplitr; swap; · iexact HS1
    ipureintro
    have e3 : View.readAt (Elt F) arg3.view (Rect.unit (s := S512x1) ![0, 0] S512x1.size inb_S512x1_S512x1_0_0).toLoadRect (harg3.unread x1) = x1 := (View.readAt_full _ _ _).trans hf1
    have e5 : View.readAt (Elt F) arg5.view (Rect.unit (s := S1x128) ![0, 0] S1x128.size inb_S1x128_S1x128_0_0).toLoadRect (harg5.unread x3) = x3 := (View.readAt_full _ _ _).trans hf3
    refine (View.read_writes_full arg14.view _ _ _ _).trans ?_
    rw [e3, e5]; rfl

end Cert.KernelIdeal.Val

end
-- ==== Proof.KRunB.lean ====
/-
  The body at the second point of a row of blocks: the second query block.
-/
module

public import proofs.«01_k».proof.Proof.KBlocks
public import proofs.«01_k».proof.Proof.Gen.KernelIdeal.Loops
public import Idealize.ShloMosaic.Lib.Claim

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- (the run's proof term is large: checking it walks past the default budget)
set_option maxHeartbeats 1000000 in
/-- The body at the second point of a row of blocks: the second query block. Every buffer is held at contents named before and after. -/
theorem run0_B (c : Dev nD) (i : grid0.Coords) (arg2 : Memref sig .tc .vmem S512x7168 .bf16) (harg2 : arg2.IsWhole) (arg3 : Memref sig .tc .vmem S512x1 .i32) (harg3 : arg3.IsWhole) (arg4 : Memref sig .tc .vmem S1x7168 .f32) (harg4 : arg4.IsWhole) (arg5 : Memref sig .tc .vmem S1x128 .f32) (harg5 : arg5.IsWhole) (arg6 : Memref sig .tc .vmem S1024x7168 .fp8e4m3) (harg6 : arg6.IsWhole) (arg7 : Memref sig .tc .vmem S1x1024 .f32) (harg7 : arg7.IsWhole) (arg8 : Memref sig .tc .vmem S512x8x128 .bf16) (harg8 : arg8.IsWhole) (arg9 : Memref sig .tc .vmem S512x8x128 .bf16) (harg9 : arg9.IsWhole) (arg10 : Memref sig .tc .vmem S512x8x128 .bf16) (harg10 : arg10.IsWhole) (arg11 : Memref sig .tc .vmem S512x7168 .fp8e4m3) (harg11 : arg11.IsWhole) (arg12 : Memref sig .tc .vmem S512x1 .f32) (harg12 : arg12.IsWhole) (arg13 : Memref sig .tc .vmem S512x128 .f32) (harg13 : arg13.IsWhole) (arg14 : Memref sig .tc .vmem S512x128 .f32) (harg14 : arg14.IsWhole) (hc0 : ¬cond0_0 i) (hc1 : cond0_1 i) (hc2 : ¬cond0_2 i) (hc3 : ¬cond0_3 i)
    (x0 : Vec F S512x7168 .bf16) (x1 : Vec F S512x1 .i32) (x2 : Vec F S1x7168 .f32) (x3 : Vec F S1x128 .f32) (x4 : Vec F S1024x7168 .fp8e4m3) (x5 : Vec F S1x1024 .f32) (d6 : Vec F S512x8x128 .bf16) (d7 : Vec F S512x8x128 .bf16) (d8 : Vec F S512x8x128 .bf16) (d9 : Vec F S512x7168 .fp8e4m3) (d10 : Vec F S512x1 .f32) (s0 : Vec F S512x128 .f32) (s1 : Vec F S512x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7 ∗ owns (c : Thread nD τ) arg10 fullShare d8 ∗ owns (c : Thread nD τ) arg11 fullShare d9 ∗ owns (c : Thread nD τ) arg12 fullShare d10 ∗ owns (c : Thread nD τ) arg13 fullShare s0 ∗ owns (c : Thread nD τ) arg14 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (QF d9 x4 d10 x5 s0 s1) ∗ owns (c : Thread nD τ) arg9 fullShare d7 ∗ owns (c : Thread nD τ) arg10 fullShare d8 ∗ owns (c : Thread nD τ) arg11 fullShare d9 ∗ owns (c : Thread nD τ) arg12 fullShare d10 ∗ owns (c : Thread nD τ) arg13 fullShare s0 ∗ owns (c : Thread nD τ) arg14 fullShare s1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K := by
    intro E K
    simp only [cc0__body_eq_skeleton]; unfold cc0__body_skel
    simp only [k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0; obtain rfl := harg14.eq_unread hfs1
    sl_exec (disch := first | sl_exact hc0 | sl_exact hc1 | sl_exact hc2 | sl_exact hc3)
    sl_step
    iapply Hk
    isplitl [H0]
    · iexists _; isplitr; swap; · iexact H0
      ipureintro
      exact harg2.read_unread _
    isplitl [H1]
    · iexists _; isplitr; swap; · iexact H1
      ipureintro
      exact harg3.read_unread _
    isplitl [H2]
    · iexists _; isplitr; swap; · iexact H2
      ipureintro
      exact harg4.read_unread _
    isplitl [H3]
    · iexists _; isplitr; swap; · iexact H3
      ipureintro
      exact harg5.read_unread _
    isplitl [H4]
    · iexists _; isplitr; swap; · iexact H4
      ipureintro
      exact harg6.read_unread _
    isplitl [H5]
    · iexists _; isplitr; swap; · iexact H5
      ipureintro
      exact harg7.read_unread _
    isplitl [H6]
    · iexists _; isplitr; swap; · iexact H6
      ipureintro
      have e11 : View.readAt (Elt F) arg11.view (Rect.unit (s := S512x7168) ![0, 0] S512x7168.size inb_S512x7168_S512x7168_0_0).toLoadRect (harg11.unread d9) = d9 := (View.readAt_full _ _ _).trans hf9
      have e6 : View.readAt (Elt F) arg6.view (Rect.unit (s := S1024x7168) ![0, 0] S1024x7168.size inb_S1024x7168_S1024x7168_0_0).toLoadRect (harg6.unread x4) = x4 := (View.readAt_full _ _ _).trans hf4
      have e12 : View.readAt (Elt F) arg12.view (Rect.unit (s := S512x1) ![0, 0] S512x1.size inb_S512x1_S512x1_0_0).toLoadRect (harg12.unread d10) = d10 := (View.readAt_full _ _ _).trans hf10
      have e7 : View.readAt (Elt F) arg7.view (Rect.unit (s := S1x1024) ![0, 0] S1x1024.size inb_S1x1024_S1x1024_0_0).toLoadRect (harg7.unread x5) = x5 := (View.readAt_full _ _ _).trans hf5
      have e13 : View.readAt (Elt F) arg13.view (Rect.unit (s := S512x128) ![0, 0] S512x128.size inb_S512x128_S512x128_0_0).toLoadRect (harg13.unread s0) = s0 := (View.readAt_full _ _ _).trans hfs0
      have e14 : View.readAt (Elt F) arg14.view (Rect.unit (s := S512x128) ![0, 0] S512x128.size inb_S512x128_S512x128_0_0).toLoadRect (harg14.unread s1) = s1 := (View.readAt_full _ _ _).trans hfs1
      refine (View.read_writes_full arg8.view _ _ _ _).trans ?_
      conv_rhs => rw [← e11, ← e6, ← e12, ← e7, ← e13, ← e14]
      rfl
    isplitl [H7]
    · iexists _; isplitr; swap; · iexact H7
      ipureintro
      exact harg9.read_unread _
    isplitl [H8]
    · iexists _; isplitr; swap; · iexact H8
      ipureintro
      exact harg10.read_unread _
    isplitl [H9]
    · iexists _; isplitr; swap; · iexact H9
      ipureintro
      exact harg11.read_unread _
    isplitl [H10]
    · iexists _; isplitr; swap; · iexact H10
      ipureintro
      exact harg12.read_unread _
    isplitl [HS0]
    · iexists _; isplitr; swap; · iexact HS0
      ipureintro
      exact harg13.read_unread _
    iexists _; isplitr; swap; · iexact HS1
    ipureintro
    exact harg14.read_unread _

end Cert.KernelIdeal.Val

end
-- ==== Proof.KRunC.lean ====
/-
  The body at the third and fourth points of a row of blocks: the key blocks.
-/
module

public import proofs.«01_k».proof.Proof.KBlocks
public import proofs.«01_k».proof.Proof.Gen.KernelIdeal.Loops
public import Idealize.ShloMosaic.Lib.Claim

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- (the run's proof term is large: checking it walks past the default budget)
set_option maxHeartbeats 1000000 in
/-- The body at the third and fourth points of a row of blocks: the key blocks. Every buffer is held at contents named before and after. -/
theorem run0_C (c : Dev nD) (i : grid0.Coords) (arg2 : Memref sig .tc .vmem S512x7168 .bf16) (harg2 : arg2.IsWhole) (arg3 : Memref sig .tc .vmem S512x1 .i32) (harg3 : arg3.IsWhole) (arg4 : Memref sig .tc .vmem S1x7168 .f32) (harg4 : arg4.IsWhole) (arg5 : Memref sig .tc .vmem S1x128 .f32) (harg5 : arg5.IsWhole) (arg6 : Memref sig .tc .vmem S1024x7168 .fp8e4m3) (harg6 : arg6.IsWhole) (arg7 : Memref sig .tc .vmem S1x1024 .f32) (harg7 : arg7.IsWhole) (arg8 : Memref sig .tc .vmem S512x8x128 .bf16) (harg8 : arg8.IsWhole) (arg9 : Memref sig .tc .vmem S512x8x128 .bf16) (harg9 : arg9.IsWhole) (arg10 : Memref sig .tc .vmem S512x8x128 .bf16) (harg10 : arg10.IsWhole) (arg11 : Memref sig .tc .vmem S512x7168 .fp8e4m3) (harg11 : arg11.IsWhole) (arg12 : Memref sig .tc .vmem S512x1 .f32) (harg12 : arg12.IsWhole) (arg13 : Memref sig .tc .vmem S512x128 .f32) (harg13 : arg13.IsWhole) (arg14 : Memref sig .tc .vmem S512x128 .f32) (harg14 : arg14.IsWhole) (hc0 : ¬cond0_0 i) (hc1 : ¬cond0_1 i) (hc2 : cond0_2 i) (hc3 : ¬cond0_3 i)
    (x0 : Vec F S512x7168 .bf16) (x1 : Vec F S512x1 .i32) (x2 : Vec F S1x7168 .f32) (x3 : Vec F S1x128 .f32) (x4 : Vec F S1024x7168 .fp8e4m3) (x5 : Vec F S1x1024 .f32) (d6 : Vec F S512x8x128 .bf16) (d7 : Vec F S512x8x128 .bf16) (d8 : Vec F S512x8x128 .bf16) (d9 : Vec F S512x7168 .fp8e4m3) (d10 : Vec F S512x1 .f32) (s0 : Vec F S512x128 .f32) (s1 : Vec F S512x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7 ∗ owns (c : Thread nD τ) arg10 fullShare d8 ∗ owns (c : Thread nD τ) arg11 fullShare d9 ∗ owns (c : Thread nD τ) arg12 fullShare d10 ∗ owns (c : Thread nD τ) arg13 fullShare s0 ∗ owns (c : Thread nD τ) arg14 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare (KF d9 x4 d10 x5 s0 s1) ∗ owns (c : Thread nD τ) arg10 fullShare d8 ∗ owns (c : Thread nD τ) arg11 fullShare d9 ∗ owns (c : Thread nD τ) arg12 fullShare d10 ∗ owns (c : Thread nD τ) arg13 fullShare s0 ∗ owns (c : Thread nD τ) arg14 fullShare s1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K := by
    intro E K
    simp only [cc0__body_eq_skeleton]; unfold cc0__body_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0; obtain rfl := harg14.eq_unread hfs1
    sl_exec (disch := first | sl_exact hc0 | sl_exact hc1 | sl_exact hc2 | sl_exact hc3)
    sl_step
    iapply Hk
    isplitl [H0]
    · iexists _; isplitr; swap; · iexact H0
      ipureintro
      exact harg2.read_unread _
    isplitl [H1]
    · iexists _; isplitr; swap; · iexact H1
      ipureintro
      exact harg3.read_unread _
    isplitl [H2]
    · iexists _; isplitr; swap; · iexact H2
      ipureintro
      exact harg4.read_unread _
    isplitl [H3]
    · iexists _; isplitr; swap; · iexact H3
      ipureintro
      exact harg5.read_unread _
    isplitl [H4]
    · iexists _; isplitr; swap; · iexact H4
      ipureintro
      exact harg6.read_unread _
    isplitl [H5]
    · iexists _; isplitr; swap; · iexact H5
      ipureintro
      exact harg7.read_unread _
    isplitl [H6]
    · iexists _; isplitr; swap; · iexact H6
      ipureintro
      exact harg8.read_unread _
    isplitl [H7]
    · iexists _; isplitr; swap; · iexact H7
      ipureintro
      have e11 : View.readAt (Elt F) arg11.view (Rect.unit (s := S512x7168) ![0, 0] S512x7168.size inb_S512x7168_S512x7168_0_0).toLoadRect (harg11.unread d9) = d9 := (View.readAt_full _ _ _).trans hf9
      have e6 : View.readAt (Elt F) arg6.view (Rect.unit (s := S1024x7168) ![0, 0] S1024x7168.size inb_S1024x7168_S1024x7168_0_0).toLoadRect (harg6.unread x4) = x4 := (View.readAt_full _ _ _).trans hf4
      have e12 : View.readAt (Elt F) arg12.view (Rect.unit (s := S512x1) ![0, 0] S512x1.size inb_S512x1_S512x1_0_0).toLoadRect (harg12.unread d10) = d10 := (View.readAt_full _ _ _).trans hf10
      have e7 : View.readAt (Elt F) arg7.view (Rect.unit (s := S1x1024) ![0, 0] S1x1024.size inb_S1x1024_S1x1024_0_0).toLoadRect (harg7.unread x5) = x5 := (View.readAt_full _ _ _).trans hf5
      have e13 : View.readAt (Elt F) arg13.view (Rect.unit (s := S512x128) ![0, 0] S512x128.size inb_S512x128_S512x128_0_0).toLoadRect (harg13.unread s0) = s0 := (View.readAt_full _ _ _).trans hfs0
      have e14 : View.readAt (Elt F) arg14.view (Rect.unit (s := S512x128) ![0, 0] S512x128.size inb_S512x128_S512x128_0_0).toLoadRect (harg14.unread s1) = s1 := (View.readAt_full _ _ _).trans hfs1
      refine (View.read_writes_full arg9.view _ _ _ _).trans ?_
      conv_rhs => rw [← e11, ← e6, ← e12, ← e7, ← e13, ← e14]
      rfl
    isplitl [H8]
    · iexists _; isplitr; swap; · iexact H8
      ipureintro
      exact harg10.read_unread _
    isplitl [H9]
    · iexists _; isplitr; swap; · iexact H9
      ipureintro
      exact harg11.read_unread _
    isplitl [H10]
    · iexists _; isplitr; swap; · iexact H10
      ipureintro
      exact harg12.read_unread _
    isplitl [HS0]
    · iexists _; isplitr; swap; · iexact HS0
      ipureintro
      exact harg13.read_unread _
    iexists _; isplitr; swap; · iexact HS1
    ipureintro
    exact harg14.read_unread _

end Cert.KernelIdeal.Val

end
-- ==== Proof.KRunD.lean ====
/-
  The body at the last two points of a row of blocks: the value blocks.
-/
module

public import proofs.«01_k».proof.Proof.KBlocks
public import proofs.«01_k».proof.Proof.Gen.KernelIdeal.Loops
public import Idealize.ShloMosaic.Lib.Claim

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- (the run's proof term is large: checking it walks past the default budget)
set_option maxHeartbeats 1000000 in
/-- The body at the last two points of a row of blocks: the value blocks. Every buffer is held at contents named before and after. -/
theorem run0_D (c : Dev nD) (i : grid0.Coords) (arg2 : Memref sig .tc .vmem S512x7168 .bf16) (harg2 : arg2.IsWhole) (arg3 : Memref sig .tc .vmem S512x1 .i32) (harg3 : arg3.IsWhole) (arg4 : Memref sig .tc .vmem S1x7168 .f32) (harg4 : arg4.IsWhole) (arg5 : Memref sig .tc .vmem S1x128 .f32) (harg5 : arg5.IsWhole) (arg6 : Memref sig .tc .vmem S1024x7168 .fp8e4m3) (harg6 : arg6.IsWhole) (arg7 : Memref sig .tc .vmem S1x1024 .f32) (harg7 : arg7.IsWhole) (arg8 : Memref sig .tc .vmem S512x8x128 .bf16) (harg8 : arg8.IsWhole) (arg9 : Memref sig .tc .vmem S512x8x128 .bf16) (harg9 : arg9.IsWhole) (arg10 : Memref sig .tc .vmem S512x8x128 .bf16) (harg10 : arg10.IsWhole) (arg11 : Memref sig .tc .vmem S512x7168 .fp8e4m3) (harg11 : arg11.IsWhole) (arg12 : Memref sig .tc .vmem S512x1 .f32) (harg12 : arg12.IsWhole) (arg13 : Memref sig .tc .vmem S512x128 .f32) (harg13 : arg13.IsWhole) (arg14 : Memref sig .tc .vmem S512x128 .f32) (harg14 : arg14.IsWhole) (hc0 : ¬cond0_0 i) (hc1 : ¬cond0_1 i) (hc2 : ¬cond0_2 i) (hc3 : cond0_3 i)
    (x0 : Vec F S512x7168 .bf16) (x1 : Vec F S512x1 .i32) (x2 : Vec F S1x7168 .f32) (x3 : Vec F S1x128 .f32) (x4 : Vec F S1024x7168 .fp8e4m3) (x5 : Vec F S1x1024 .f32) (d6 : Vec F S512x8x128 .bf16) (d7 : Vec F S512x8x128 .bf16) (d8 : Vec F S512x8x128 .bf16) (d9 : Vec F S512x7168 .fp8e4m3) (d10 : Vec F S512x1 .f32) (s0 : Vec F S512x128 .f32) (s1 : Vec F S512x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7 ∗ owns (c : Thread nD τ) arg10 fullShare d8 ∗ owns (c : Thread nD τ) arg11 fullShare d9 ∗ owns (c : Thread nD τ) arg12 fullShare d10 ∗ owns (c : Thread nD τ) arg13 fullShare s0 ∗ owns (c : Thread nD τ) arg14 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ owns (c : Thread nD τ) arg9 fullShare d7 ∗ owns (c : Thread nD τ) arg10 fullShare (VF d9 x4 d10 x5) ∗ owns (c : Thread nD τ) arg11 fullShare d9 ∗ owns (c : Thread nD τ) arg12 fullShare d10 ∗ owns (c : Thread nD τ) arg13 fullShare s0 ∗ owns (c : Thread nD τ) arg14 fullShare s1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0; obtain rfl := harg14.eq_unread hfs1
    sl_exec (disch := first | sl_exact hc0 | sl_exact hc1 | sl_exact hc2 | sl_exact hc3)
    sl_step
    iapply Hk
    isplitl [H0]
    · iexists _; isplitr; swap; · iexact H0
      ipureintro
      exact harg2.read_unread _
    isplitl [H1]
    · iexists _; isplitr; swap; · iexact H1
      ipureintro
      exact harg3.read_unread _
    isplitl [H2]
    · iexists _; isplitr; swap; · iexact H2
      ipureintro
      exact harg4.read_unread _
    isplitl [H3]
    · iexists _; isplitr; swap; · iexact H3
      ipureintro
      exact harg5.read_unread _
    isplitl [H4]
    · iexists _; isplitr; swap; · iexact H4
      ipureintro
      exact harg6.read_unread _
    isplitl [H5]
    · iexists _; isplitr; swap; · iexact H5
      ipureintro
      exact harg7.read_unread _
    isplitl [H6]
    · iexists _; isplitr; swap; · iexact H6
      ipureintro
      exact harg8.read_unread _
    isplitl [H7]
    · iexists _; isplitr; swap; · iexact H7
      ipureintro
      exact harg9.read_unread _
    isplitl [H8]
    · iexists _; isplitr; swap; · iexact H8
      ipureintro
      have e11 : View.readAt (Elt F) arg11.view (Rect.unit (s := S512x7168) ![0, 0] S512x7168.size inb_S512x7168_S512x7168_0_0).toLoadRect (harg11.unread d9) = d9 := (View.readAt_full _ _ _).trans hf9
      have e6 : View.readAt (Elt F) arg6.view (Rect.unit (s := S1024x7168) ![0, 0] S1024x7168.size inb_S1024x7168_S1024x7168_0_0).toLoadRect (harg6.unread x4) = x4 := (View.readAt_full _ _ _).trans hf4
      have e12 : View.readAt (Elt F) arg12.view (Rect.unit (s := S512x1) ![0, 0] S512x1.size inb_S512x1_S512x1_0_0).toLoadRect (harg12.unread d10) = d10 := (View.readAt_full _ _ _).trans hf10
      have e7 : View.readAt (Elt F) arg7.view (Rect.unit (s := S1x1024) ![0, 0] S1x1024.size inb_S1x1024_S1x1024_0_0).toLoadRect (harg7.unread x5) = x5 := (View.readAt_full _ _ _).trans hf5
      refine (View.read_writes_full arg10.view _ _ _ _).trans ?_
      conv_rhs => rw [← e11, ← e6, ← e12, ← e7]
      rfl
    isplitl [H9]
    · iexists _; isplitr; swap; · iexact H9
      ipureintro
      exact harg11.read_unread _
    isplitl [H10]
    · iexists _; isplitr; swap; · iexact H10
      ipureintro
      exact harg12.read_unread _
    isplitl [HS0]
    · iexists _; isplitr; swap; · iexact HS0
      ipureintro
      exact harg13.read_unread _
    iexists _; isplitr; swap; · iexact HS1
    ipureintro
    exact harg14.read_unread _

end Cert.KernelIdeal.Val

end
-- ==== Proof.KFrame.lean ====
/-
  The kernel's run: the body's obligation at every point of the grid, the frame, and what the arrays end at.
-/
module

public import proofs.«01_k».proof.Proof.KData
public import proofs.«01_k».proof.Proof.KRunA
public import proofs.«01_k».proof.Proof.KRunB
public import proofs.«01_k».proof.Proof.KRunC
public import proofs.«01_k».proof.Proof.KRunD
public import proofs.«01_k».proof.Proof.Gen.KernelIdeal.Loops
public import Idealize.ShloMosaic.Lib.Claim

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body obligation -/

/-- What the body is called with at point `t`, the windows one by one, -/
def bodyPre (c : Dev nD) (t : Fin cfg0.N) : sProp 𝕄 :=
  iprop(Phi m c t.val ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop(Phi m c (t.val + 1) ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem Phi_start (c : Dev nD) (n : ℕ) (h : n % 6 = 0) :
    Phi m c n = (iprop(iprop((∃ d, owns (c : Thread nD τ) scM0_0 fullShare d) ∗ (∃ d, owns (c : Thread nD τ) scM0_1 fullShare d)) ∗ (∃ r, prngReg c r)) : sProp 𝕄) := by
  unfold Phi; rw [if_pos h, PhiA0_eq]

theorem Phi_in (c : Dev nD) (n : ℕ) (h : n % 6 ≠ 0) :
    Phi m c n = (iprop(iprop(owns (c : Thread nD τ) scM0_0 fullShare (cosAt m c n) ∗ owns (c : Thread nD τ) scM0_1 fullShare (sinAt m c n)) ∗ (∃ r, prngReg c r)) : sProp 𝕄) := by
  unfold Phi; rw [if_neg h]

/-- The tables named at position `n + 1`, or forgotten at a row's end. -/
theorem Phi_next (c : Dev nD) (n : ℕ) (h : (n + 1) % 6 ≠ 0 → n / 6 = (n + 1) / 6) :
    iprop(iprop(owns (c : Thread nD τ) scM0_0 fullShare (cosAt m c n) ∗ owns (c : Thread nD τ) scM0_1 fullShare (sinAt m c n)) ∗ (∃ r, prngReg c r)) ⊢ (Phi m c (n + 1) : sProp 𝕄) := by
  by_cases h0 : (n + 1) % 6 = 0
  · rw [Phi_start m c (n + 1) h0]
    iintro ⟨⟨HS0, HS1⟩, Hg⟩
    isplitl [HS0 HS1]
    · isplitl [HS0]
      · iexists _; iexact HS0
      iexists _; iexact HS1
    iexact Hg
  · rw [Phi_in m c (n + 1) h0, cosAt_congr m c (h h0), sinAt_congr m c (h h0)]

set_option maxHeartbeats 4800000 in
/-- The body at the first point of a row. -/
theorem sound_A (c : Dev nD) (t : Fin cfg0.N) (hx : t.val % 6 = 0) :
    bodyPre m c t ⊢ wp frame (wpE (defs₀ (F := F)) Variants.none c none) Set.univ (bodyAt0 t) (fun _ => bodyPost m c t) := by
  have hN : t.val < 36 := lt36 t
  have hrow : pt (6 * (t.val / 6)) = t := (congrArg pt (by omega : 6 * (t.val / 6) = t.val)).trans (pt_val t)
  have hq : pt (qpt t.val) = t := (congrArg pt (by unfold qpt; omega : qpt t.val = t.val)).trans (pt_val t)
  have e6 : qAt m c t.val = QF (CODES (iblk m c 0 t) (iblk m c 2 t)) (iblk m c 4 t) (SCALE (iblk m c 0 t) (iblk m c 2 t)) (iblk m c 5 t) (COS (iblk m c 1 t) (iblk m c 3 t)) (SIN (iblk m c 1 t) (iblk m c 3 t)) := by
    unfold qAt codesAt scaleAt cosAt sinAt; rw [hrow, hq]
  have e9 : codesAt m c t.val = CODES (iblk m c 0 t) (iblk m c 2 t) := by unfold codesAt; rw [hrow]
  have e10 : scaleAt m c t.val = SCALE (iblk m c 0 t) (iblk m c 2 t) := by unfold scaleAt; rw [hrow]
  have eS0 : cosAt m c t.val = COS (iblk m c 1 t) (iblk m c 3 t) := by unfold cosAt; rw [hrow]
  have eS1 : sinAt m c t.val = SIN (iblk m c 1 t) (iblk m c 3 t) := by unfold sinAt; rw [hrow]
  unfold bodyPre bodyPost bodyAt0
  simp only [before0_0, before0_1, before0_2, before0_3, before0_4, before0_5]
  rw [show (dats m 0 c).owesAt () t.succ = (dats m 0 c).owesAt () t.castSucc from rfl, Phi_start m c t.val (by omega)]
  rw [leaves_live m c 0 t (liveAt0_0 t), after0_0]
  rw [leaves_live m c 1 t (liveAt0_1 t), after0_1]
  rw [leaves_live m c 2 t (liveAt0_2 t), after0_2]
  rw [leaves_live m c 3 t (liveAt0_3 t), after0_3]
  rw [leaves_live m c 4 t (liveAt0_4 t), after0_4]
  rw [leaves_live m c 5 t (liveAt0_5 t), after0_5]
  rw [leaves_live m c 6 t (by rw [idle0_6, decide_eq_false_iff_not]; omega), after0_6, e6]
  rw [leaves_live m c 9 t (by rw [idle0_9, decide_eq_false_iff_not]; omega), after0_9, e9]
  rw [leaves_live m c 10 t (by rw [idle0_10, decide_eq_false_iff_not]; omega), after0_10, e10]
  iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((run0_A c (grid0.coords t) _ _ _ _ _ _ _ _ _ _ _ _ _ _ _ _ _ _ _ _ _ _ _ _ _ _ ((hcond0_0 t).mpr (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t) (iblk m c 4 t) (iblk m c 5 t) _ _ _ _ _ _ _) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  isplitl [HS0 HS1 Hg]
  · iapply (Phi_next m c t.val (by omega))
    rw [eS0, eS1]
    isplitl [HS0 HS1]
    · isplitl [HS0]
      · iexact HS0
      iexact HS1
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iapply (leaves_found m c 7 t d7 (by rw [idle0_7, decide_eq_true_eq]; omega) (fun h => absurd h (by rw [flush0_7, decide_eq_true_eq]; omega)))
    iexact H7
  isplitl [H8]
  · iapply (leaves_found m c 8 t d8 (by rw [idle0_8, decide_eq_true_eq]; omega) (fun h => absurd h (by rw [flush0_8, decide_eq_true_eq]; omega)))
    iexact H8
  isplitl [H9]
  · iexact H9
  iexact H10

set_option maxHeartbeats 4800000 in
/-- The body at the second. -/
theorem sound_B (c : Dev nD) (t : Fin cfg0.N) (hx : t.val % 6 = 1) :
    bodyPre m c t ⊢ wp frame (wpE (defs₀ (F := F)) Variants.none c none) Set.univ (bodyAt0 t) (fun _ => bodyPost m c t) := by
  have hN : t.val < 36 := lt36 t
  have hq : pt (qpt t.val) = t := (congrArg pt (by unfold qpt; omega : qpt t.val = t.val)).trans (pt_val t)
  have e6 : qAt m c t.val = QF (codesAt m c t.val) (iblk m c 4 t) (scaleAt m c t.val) (iblk m c 5 t) (cosAt m c t.val) (sinAt m c t.val) := by
    unfold qAt; rw [hq]
  unfold bodyPre bodyPost bodyAt0
  simp only [before0_0, before0_1, before0_2, before0_3, before0_4, before0_5]
  simp only [before0_9 m c t _ (by omega), before0_10 m c t _ (by omega)]
  rw [show (dats m 0 c).owesAt () t.succ = (dats m 0 c).owesAt () t.castSucc from rfl, Phi_in m c t.val (by omega)]
  rw [leaves_live m c 0 t (liveAt0_0 t), after0_0]
  rw [leaves_live m c 1 t (liveAt0_1 t), after0_1]
  rw [leaves_live m c 2 t (liveAt0_2 t), after0_2]
  rw [leaves_live m c 3 t (liveAt0_3 t), after0_3]
  rw [leaves_live m c 4 t (liveAt0_4 t), after0_4]
  rw [leaves_live m c 5 t (liveAt0_5 t), after0_5]
  rw [leaves_live m c 6 t (by rw [idle0_6, decide_eq_false_iff_not]; omega), after0_6, e6]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((run0_B c (grid0.coords t) _ _ _ _ _ _ _ _ _ _ _ _ _ _ _ _ _ _ _ _ _ _ _ _ _ _ (fun h => absurd ((hcond0_0 t).mp h) (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t) (iblk m c 4 t) (iblk m c 5 t) _ _ _ _ _ _ _) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  isplitl [HS0 HS1 Hg]
  · iapply (Phi_next m c t.val (by omega))
    isplitl [HS0 HS1]
    · isplitl [HS0]
      · iexact HS0
      iexact HS1
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iapply (leaves_found m c 7 t d7 (by rw [idle0_7, decide_eq_true_eq]; omega) (fun h => absurd h (by rw [flush0_7, decide_eq_true_eq]; omega)))
    iexact H7
  isplitl [H8]
  · iapply (leaves_found m c 8 t d8 (by rw [idle0_8, decide_eq_true_eq]; omega) (fun h => absurd h (by rw [flush0_8, decide_eq_true_eq]; omega)))
    iexact H8
  isplitl [H9]
  · iapply (leaves_found m c 9 t d9 (by rw [idle0_9, decide_eq_true_eq]; omega) (fun h => absurd h (by rw [flush0_9, decide_eq_true_eq]; omega)))
    rw [before0_9 m c t d9 (by omega)]
    iexact H9
  iapply (leaves_found m c 10 t d10 (by rw [idle0_10, decide_eq_true_eq]; omega) (fun h => absurd h (by rw [flush0_10, decide_eq_true_eq]; omega)))
  rw [before0_10 m c t d10 (by omega)]
  iexact H10

set_option maxHeartbeats 4800000 in
/-- The body at the third and fourth. -/
theorem sound_C (c : Dev nD) (t : Fin cfg0.N) (hx : 2 ≤ t.val % 6 ∧ t.val % 6 ≤ 3) :
    bodyPre m c t ⊢ wp frame (wpE (defs₀ (F := F)) Variants.none c none) Set.univ (bodyAt0 t) (fun _ => bodyPost m c t) := by
  have hN : t.val < 36 := lt36 t
  have hq : pt (kpt t.val) = t := (congrArg pt (by unfold kpt; omega : kpt t.val = t.val)).trans (pt_val t)
  have e7 : kAt m c t.val = KF (codesAt m c t.val) (iblk m c 4 t) (scaleAt m c t.val) (iblk m c 5 t) (cosAt m c t.val) (sinAt m c t.val) := by
    unfold kAt; rw [hq]
  unfold bodyPre bodyPost bodyAt0
  simp only [before0_0, before0_1, before0_2, before0_3, before0_4, before0_5]
  simp only [before0_9 m c t _ (by omega), before0_10 m c t _ (by omega)]
  rw [show (dats m 0 c).owesAt () t.succ = (dats m 0 c).owesAt () t.castSucc from rfl, Phi_in m c t.val (by omega)]
  rw [leaves_live m c 0 t (liveAt0_0 t), after0_0]
  rw [leaves_live m c 1 t (liveAt0_1 t), after0_1]
  rw [leaves_live m c 2 t (liveAt0_2 t), after0_2]
  rw [leaves_live m c 3 t (liveAt0_3 t), after0_3]
  rw [leaves_live m c 4 t (liveAt0_4 t), after0_4]
  rw [leaves_live m c 5 t (liveAt0_5 t), after0_5]
  rw [leaves_live m c 7 t (by rw [idle0_7, decide_eq_false_iff_not]; omega), after0_7, e7]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((run0_C c (grid0.coords t) _ _ _ _ _ _ _ _ _ _ _ _ _ _ _ _ _ _ _ _ _ _ _ _ _ _ (fun h => absurd ((hcond0_0 t).mp h) (by omega)) (fun h => absurd ((hcond0_1 t).mp h) (by omega)) ((hcond0_2 t).mpr (by omega)) (fun h => absurd ((hcond0_3 t).mp h) (by omega)) (iblk m c 0 t) (iblk m c 1 t) (iblk m c 2 t) (iblk m c 3 t) (iblk m c 4 t) (iblk m c 5 t) _ _ _ _ _ _ _) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  isplitl [HS0 HS1 Hg]
  · iapply (Phi_next m c t.val (by omega))
    isplitl [HS0 HS1]
    · isplitl [HS0]
      · iexact HS0
      iexact HS1
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iapply (leaves_found m c 6 t d6 (by rw [idle0_6, decide_eq_true_eq]; omega) (fun h => absurd h (by rw [flush0_6, decide_eq_true_eq]; omega)))
    iexact H6
  isplitl [H7]
  · iexact H7
  isplitl [H8]
  · iapply (leaves_found m c 8 t d8 (by rw [idle0_8, decide_eq_true_eq]; omega) (fun h => absurd h (by rw [flush0_8, decide_eq_true_eq]; omega)))
    iexact H8
  isplitl [H9]
  · iapply (leaves_found m c 9 t d9 (by rw [idle0_9, decide_eq_true_eq]; omega) (fun h => absurd h (by rw [flush0_9, decide_eq_true_eq]; omega)))
    rw [before0_9 m c t d9 (by omega)]
    iexact H9
  iapply (leaves_found m c 10 t d10 (by rw [idle0_10, decide_eq_true_eq]; omega) (fun h => absurd h (by rw [flush0_10, decide_eq_true_eq]; omega)))
  rw [before0_10 m c t d10 (by omega)]
  iexact H10

set_option maxHeartbeats 4800000 in
/-- The body at the last two. -/
theorem sound_D (c : Dev nD) (t : Fin cfg0.N) (hx : 4 ≤ t.val % 6) :
    bodyPre m c t ⊢ wp frame (wpE (defs₀ (F := F)) Variants.none c none) Set.univ (bodyAt0 t) (fun _ => bodyPost m c t) := by
  have hN : t.val < 36 := lt36 t
  have hq : pt (vpt t.val) = t := (congrArg pt (by unfold vpt; omega : vpt t.val = t.val)).trans (pt_val t)
  have e8 : vAt m c t.val = VF (codesAt m c t.val) (iblk m c 4 t) (scaleAt m c t.val) (iblk m c 5 t) := by
    unfold vAt; rw [hq]
  unfold bodyPre bodyPost bodyAt0
  simp only [before0_0, before0_1, before0_2, before0_3, before0_4, before0_5]
  simp only [before0_9 m c t _ (by omega), before0_10 m c t _ (by omega)]
  rw [show (dats m 0 c).owesAt () t.succ = (dats m 0 c).owesAt () t.castSucc from rfl, Phi_in m c t.val (by omega)]
  rw [leaves_live m c 0 t (liveAt0_0 t), after0_0]
  rw [leaves_live m c 1 t (liveAt0_1 t), after0_1]
  rw [leaves_live m c 2 t (liveAt0_2 t), after0_2]
  rw [leaves_live m c 3 t (liveAt0_3 t), after0_3]
  rw [leaves_live m c 4 t (liveAt0_4 t), after0_4]
  rw [leaves_live m c 5 t (liveAt0_5 t), after0_5]
  rw [leaves_live m c 8 t (by rw [idle0_8, decide_eq_false_iff_not]; omega), after0_8, e8]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((run0_D c (grid0.coords t) _ _ _ _ _ _ _ _ _ _ _ _ _ _ _ _ _ _ _ _ _ _ _ _ _ _ (fun h => absurd ((hcond0_0 t).mp h) (by omega)) (fun h => absurd ((hcond0_1 t).mp h) (by omega)) (fun h => absurd ((hcond0_2 t).mp h) (by omega)) ((hcond0_3 t).mpr (by omega)) (iblk m c 0 t) (iblk m c 1 t) (iblk m c 2 t) (iblk m c 3 t) (iblk m c 4 t) (iblk m c 5 t) _ _ _ _ _ _ _) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  isplitl [HS0 HS1 Hg]
  · iapply (Phi_next m c t.val (by omega))
    isplitl [HS0 HS1]
    · isplitl [HS0]
      · iexact HS0
      iexact HS1
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iapply (leaves_found m c 6 t d6 (by rw [idle0_6, decide_eq_true_eq]; omega) (fun _ => (before0_6 m c t d6 (by omega)).trans (after0_6 m c t).symm))
    iexact H6
  isplitl [H7]
  · iapply (leaves_found m c 7 t d7 (by rw [idle0_7, decide_eq_true_eq]; omega) (fun _ => (before0_7 m c t d7 (by omega)).trans (after0_7 m c t).symm))
    iexact H7
  isplitl [H8]
  · iexact H8
  isplitl [H9]
  · iapply (leaves_found m c 9 t d9 (by rw [idle0_9, decide_eq_true_eq]; omega) (fun _ => (before0_9 m c t d9 (by omega)).trans (after0_9 m c t).symm))
    rw [before0_9 m c t d9 (by omega)]
    iexact H9
  iapply (leaves_found m c 10 t d10 (by rw [idle0_10, decide_eq_true_eq]; omega) (fun _ => (before0_10 m c t d10 (by omega)).trans (after0_10 m c t).symm))
  rw [before0_10 m c t d10 (by omega)]
  iexact H10

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 6 = 0
  · exact sound_A m c t h0
  by_cases h1 : t.val % 6 = 1
  · exact sound_B m c t h1
  by_cases h3 : t.val % 6 ≤ 3
  · exact sound_C m c t ⟨by omega, h3⟩
  · exact sound_D m c t (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run, and every semaphore counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by show _ ⊢ Phi m c 0; unfold Phi; rw [if_pos rfl])
    (hout := fun c => by show Phi m c grid0.N ⊢ _; rw [N_0]; unfold Phi; rw [if_pos rfl])

/-- The run, at what every array holds. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every argument array ends as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Val

end
-- ==== Proof.Final.lean ====
/-
  The value claim: under a finite gain the kernel's five results are the reference's.
-/
module

public import proofs.«01_k».proof.Defs
public import proofs.«01_k».proof.Proof.Host
public import proofs.«01_k».proof.Proof.KFrame
public import proofs.«01_k».proof.Proof.Gen.Pre_gain_finite

@[expose] public section

set_option maxRecDepth 16384

noncomputable section

namespace Cert.Spec

open Idealize.ShloMosaic Idealize.ShloMosaic.TcCoe Idealize.SL.Sem
open Idealize.ShloMosaic.ValueIdx

theorem le_of_cmp (x y : EReal) (h : Ideal.cmp .ole x y = 1#1) : x ≤ y := by
  by_contra hn
  simp [Ideal.cmp, hn] at h

/-- What the precondition says of the gain. -/
theorem gain_finite (m : (ℓ : Loc KernelIdeal.nD KernelIdeal.τ KernelIdeal.sig) → Buf (Elt Ideal) ℓ) (h : Pre_KernelIdeal_gain_finite m)
    (c : Dev KernelIdeal.nD) : KernelIdeal.Val.GainFinite m c := fun j => by
  rw [g_apply]
  exact le_of_cmp _ _ (congrFun (h c) (ix1 j))

variable (m : (ℓ : Loc KernelIdeal.nD KernelIdeal.τ KernelIdeal.sig) → Buf (Elt Ideal) ℓ) (c : Dev KernelIdeal.nD)
  (m' : (ℓ : Loc ReferenceIdeal.nD ReferenceIdeal.τ ReferenceIdeal.sig) → Buf (Elt Ideal) ℓ)

/-- The arguments agree. -/
def Agree : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)

variable {m c m'}

/-- The reference's rotated heads, of the kernel's arrays. -/
theorem rotated_eq (h : Agree m c m') (o : ℕ) (ho : o + 2048 ≤ 6144) (r : Fin 3072) (H : Fin 16) (l : Fin 128) :
    rotLane (fun l => yRow (fun k => KernelIdeal.Val.aX m c (ix2 r k)) (fun k => KernelIdeal.Val.aG m c (ix2 0 k))
        (fun k => KernelIdeal.Val.aW m c (ix2 ⟨o + (128 * H.val + l.val), by omega⟩ k)) (KernelIdeal.Val.aS m c (ix2 0 ⟨o + (128 * H.val + l.val), by omega⟩)))
      (fun d => angle (KernelIdeal.Val.aP m c (ix2 r 0)) (ReferenceIdeal.Gen.V m' c ReferenceIdeal.main_v13 (ix2 0 d))) l
      = KernelIdeal.Val.rotated m c o ho r H l := by
  unfold KernelIdeal.Val.rotated
  exact congrArg (fun A => rotLane _ A l) (funext fun d => congrArg (angle _) (f_half m c m' d))

theorem q_eq (h : Agree m c m') : (ReferenceIdeal.Gen.dats m' 0 c).arrAt 6 ReferenceIdeal.cfg0.N = KernelIdeal.Val.resR m c 0 (by omega) := by
  rw [ReferenceIdeal.Val.arr6, x_eq m c m' h.1, p_eq m c m' h.2.1, g_eq m c m' h.2.2.1, w_eq m c m' h.2.2.2.1, s_eq m c m' h.2.2.2.2]
  funext y
  obtain ⟨r, H, l, rfl⟩ : ∃ (r : Fin 3072) (H : Fin 16) (l : Fin 128), y = ix3 r H l := ⟨y 0, y 1, y 2, eq_ix3 y⟩
  rw [ReferenceIdeal.Val.Q_apply]
  exact rotated_eq h 0 (by omega) r H l

theorem k_eq (h : Agree m c m') : (ReferenceIdeal.Gen.dats m' 0 c).arrAt 7 ReferenceIdeal.cfg0.N = KernelIdeal.Val.resR m c 2048 (by omega) := by
  rw [ReferenceIdeal.Val.arr7, x_eq m c m' h.1, p_eq m c m' h.2.1, g_eq m c m' h.2.2.1, w_eq m c m' h.2.2.2.1, s_eq m c m' h.2.2.2.2]
  funext y
  obtain ⟨r, H, l, rfl⟩ : ∃ (r : Fin 3072) (H : Fin 16) (l : Fin 128), y = ix3 r H l := ⟨y 0, y 1, y 2, eq_ix3 y⟩
  rw [ReferenceIdeal.Val.K_apply]
  exact rotated_eq h 2048 (by omega) r H l

theorem v_eq (h : Agree m c m') : (ReferenceIdeal.Gen.dats m' 0 c).arrAt 8 ReferenceIdeal.cfg0.N = KernelIdeal.Val.resV m c := by
  rw [ReferenceIdeal.Val.arr8, x_eq m c m' h.1, g_eq m c m' h.2.2.1, w_eq m c m' h.2.2.2.1, s_eq m c m' h.2.2.2.2]
  funext y
  obtain ⟨r, H, l, rfl⟩ : ∃ (r : Fin 3072) (H : Fin 16) (l : Fin 128), y = ix3 r H l := ⟨y 0, y 1, y 2, eq_ix3 y⟩
  rw [ReferenceIdeal.Val.V_apply]
  rfl

theorem c_eq (h : Agree m c m') : (ReferenceIdeal.Gen.dats m' 0 c).arrAt 9 ReferenceIdeal.cfg0.N = KernelIdeal.Val.resC m c := by
  rw [ReferenceIdeal.Val.arr9, x_eq m c m' h.1, g_eq m c m' h.2.2.1]
  funext y
  obtain ⟨r, j, rfl⟩ : ∃ (r : Fin 3072) (j : Fin 7168), y = ix2 r j := ⟨y 0, y 1, eq_ix2 y⟩
  exact ReferenceIdeal.Val.pay8_apply _ _ r j

theorem sc_eq (h : Agree m c m') : (ReferenceIdeal.Gen.dats m' 0 c).arrAt 10 ReferenceIdeal.cfg0.N = KernelIdeal.Val.resS m c := by
  rw [ReferenceIdeal.Val.arr10, x_eq m c m' h.1, g_eq m c m' h.2.2.1]
  funext y
  obtain ⟨r, rfl⟩ : ∃ r : Fin 3072, y = ix2 r 0 := ⟨y 0, (eq_ix2 y).trans (congrArg (ix2 (y 0)) (Subsingleton.elim (α := Fin 1) _ _))⟩
  exact ReferenceIdeal.Val.pay6_apply _ _ r

end Cert.Spec

namespace Cert.Proof

open Idealize.ShloMosaic Idealize.ShloMosaic.TcCoe Idealize.SL.Sem
open Cert.Spec

theorem algebraic : algebraic_KernelIdeal_ReferenceIdeal_pre_gain_finite := by
  intro m g m' g' hpre hag
  have hg := gain_finite m hpre
  refine ⟨fun c => KernelIdeal.Val.resR m c 0 (by omega), fun c => KernelIdeal.Val.resR m c 2048 (by omega), fun c => KernelIdeal.Val.resV m c,
    fun c => KernelIdeal.Val.resC m c, fun c => KernelIdeal.Val.resS m c, ?_, ?_⟩
  · refine (θ_run _ _ _).mono (fun r h c => ?_) (θ_run_and (KernelIdeal.Val.run_main m g) (KernelIdeal.Val.frame m g))
    exact ⟨((h.1 c).1 6).trans (KernelIdeal.Val.arr6 (hg c) (twice m c)), ((h.1 c).1 7).trans (KernelIdeal.Val.arr7 (hg c) (twice m c)),
      ((h.1 c).1 8).trans (KernelIdeal.Val.arr8 (hg c)), ((h.1 c).1 9).trans (KernelIdeal.Val.arr9 (hg c)),
      ((h.1 c).1 10).trans (KernelIdeal.Val.arr10 (hg c)), h.2.1 c⟩
  · refine (θ_run _ _ _).mono (fun r h c => ?_) (θ_run_and (ReferenceIdeal.Gen.run_main m' g') (ReferenceIdeal.Gen.frame m' g'))
    exact ⟨((h.1 c).1 6).trans (q_eq (hag c)), ((h.1 c).1 7).trans (k_eq (hag c)), ((h.1 c).1 8).trans (v_eq (hag c)),
      ((h.1 c).1 9).trans (c_eq (hag c)), ((h.1 c).1 10).trans (sc_eq (hag c)), h.2.1 c⟩

end Cert.Proof

end
-- ==== Proof.PFrame.lean ====
/-
  The frame of the kernel as printed: it is the idealized program with the one named constant read as its bits.
-/
module

public import proofs.«01_k».proof.Proof.KFrame
public import proofs.«01_k».proof.Proof.Gen.Kernel

@[expose] public section

set_option maxRecDepth 16384

noncomputable section

namespace Cert.Kernel.Val

open Idealize.ShloMosaic Idealize.ShloMosaic.TcCoe Idealize.SL.Sem
open Cert.Kernel

variable {F : FTy → Type} [FloatOps F]

/-- Every named constant read as its bits. -/
@[reducible] def asBits : Named F := ⟨fun _ _ φ b => Scalar.ofBits φ b⟩

attribute [local instance] asBits

theorem body_eq : @KernelIdeal.cc0__body F _ _ _ = @Kernel.cc0__body F _ _ := rfl
theorem defs0_eq : KernelIdeal.defs₀ (F := F) = Kernel.defs₀ (F := F) := by
  unfold KernelIdeal.defs₀ Kernel.defs₀
  refine congrArg Defs.onTc (funext fun l => funext fun x => ?_)
  match l with
  | ⟨0, _⟩ => rfl

theorem pcfgs_eq : KernelIdeal.pcfgs (F := F) = Kernel.pcfgs (F := F) := rfl

theorem defs_eq : KernelIdeal.defs (F := F) = Kernel.defs (F := F) :=
  congrArg (Pipeline.defs (Kernel.pcfgs (F := F))) defs0_eq

theorem main_eq : KernelIdeal.main (F := F) = Kernel.main (F := F) := rfl

/-- The frame: every argument array ends as launched, every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) := by
  rw [← defs_eq, ← main_eq]
  exact Cert.KernelIdeal.Val.frame (F := F) m ρ

end Cert.Kernel.Val

end
-- ==== Proof.lean ====
module

public import proofs.«01_k».proof.Defs
public import proofs.«01_k».proof.Proof.Final
public import proofs.«01_k».proof.Proof.PFrame
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_gain_finite
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_gain_finite.Gen.facts,
  fun m g _ => Cert.Kernel.Val.frame m g,
  fun m g _ => Cert.KernelIdeal.Val.frame m g,
  fun m g _ => Cert.KernelIdeal.Val.frame m g,
  fun m g _ => Cert.ReferenceIdeal.Gen.frame m g,
  fun m g _ => Cert.ReferenceIdeal.Gen.frame m g,
  IdealRules.named_const.statement Cert.KernelIdeal.κ "inv_d" .f32 0x39124925#32 ((1 / 7168 : ℝ) : EReal) rfl,
  algebraic⟩

end Cert.Proof

end
